-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x128 : Shape := ⟨2, ![256, 128]⟩
abbrev S1024x1 : Shape := ⟨2, ![1024, 1]⟩
abbrev S4x256x512 : Shape := ⟨3, ![4, 256, 512]⟩
abbrev S1024x512 : Shape := ⟨2, ![1024, 512]⟩
abbrev S768x512 : Shape := ⟨2, ![768, 512]⟩
abbrev S32 : Shape := ⟨1, ![32]⟩
abbrev S_ : Shape := ⟨0, ![]⟩
abbrev S1024x128 : Shape := ⟨2, ![1024, 128]⟩
abbrev S1024x1024 : Shape := ⟨2, ![1024, 1024]⟩
abbrev S1024 : Shape := ⟨1, ![1024]⟩
abbrev S24x1024 : Shape := ⟨2, ![24, 1024]⟩
abbrev S1x1024 : Shape := ⟨2, ![1, 1024]⟩
abbrev S24x256 : Shape := ⟨2, ![24, 256]⟩
abbrev S1x256x512 : Shape := ⟨3, ![1, 256, 512]⟩
abbrev S256x512 : Shape := ⟨2, ![256, 512]⟩
abbrev S6x256 : Shape := ⟨2, ![6, 256]⟩
abbrev S6x512 : Shape := ⟨2, ![6, 512]⟩
abbrev S24x512 : Shape := ⟨2, ![24, 512]⟩
abbrev S1 : Shape := ⟨1, ![1]⟩
abbrev S1024x768 : Shape := ⟨2, ![1024, 768]⟩

abbrev nBuf : Space → Nat
  | .hbm => 5
  | .vmem => 5
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x1, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S1024x1, .i32⟩
  | .local _ .vmem, ⟨2, _⟩ => ⟨S4x256x512, .bf16⟩
  | .local _ .vmem, ⟨3, _⟩ => ⟨S1024x512, .f32⟩
  | .local _ .vmem, ⟨4, _⟩ => ⟨S768x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_151 : BitVec 32 := 24#32
  let v206 : BitVec 32 := Scalar.muli v2 c24_i32_151
  let v207 : Index := Scalar.indexCast v206
  let c0_152 : Index := 0#32
  ![v207.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_157 : BitVec 32 := 24#32
  let v214 : BitVec 32 := Scalar.muli v2 c24_i32_157
  let c0_i32_162 : BitVec 32 := 0#32
  ![v214.toNat, 0]
def k0_dev32 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_154 : BitVec 32 := 1#32
  let v211 : BitVec 32 := Scalar.addi v2 c1_i32_154
  let c32_i32_155 : BitVec 32 := 32#32
  let v212 : BitVec 32 := Scalar.remsi v211 c32_i32_155
  let c1_i32_160 : BitVec 32 := 1#32
  let v215 : BitVec 32 := Scalar.muli v212 c1_i32_160
  let v216 : BitVec 32 := Scalar.addi c0_i32_161 v215
  v216.toNat
def k0_dev33 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_164 : BitVec 32 := 2#32
  let v223 : BitVec 32 := Scalar.addi v2 c2_i32_164
  let c32_i32_165 : BitVec 32 := 32#32
  let v224 : BitVec 32 := Scalar.remsi v223 c32_i32_165
  let c1_i32_170 : BitVec 32 := 1#32
  let v227 : BitVec 32 := Scalar.muli v224 c1_i32_170
  let v228 : BitVec 32 := Scalar.addi c0_i32_171 v227
  v228.toNat
def k0_dev34 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_174 : BitVec 32 := 3#32
  let v235 : BitVec 32 := Scalar.addi v2 c3_i32_174
  let c32_i32_175 : BitVec 32 := 32#32
  let v236 : BitVec 32 := Scalar.remsi v235 c32_i32_175
  let c1_i32_180 : BitVec 32 := 1#32
  let v239 : BitVec 32 := Scalar.muli v236 c1_i32_180
  let v240 : BitVec 32 := Scalar.addi c0_i32_181 v239
  v240.toNat
def k0_dev35 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_184 : BitVec 32 := 4#32
  let v247 : BitVec 32 := Scalar.addi v2 c4_i32_184
  let c32_i32_185 : BitVec 32 := 32#32
  let v248 : BitVec 32 := Scalar.remsi v247 c32_i32_185
  let c1_i32_190 : BitVec 32 := 1#32
  let v251 : BitVec 32 := Scalar.muli v248 c1_i32_190
  let v252 : BitVec 32 := Scalar.addi c0_i32_191 v251
  v252.toNat
def k0_dev36 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_194 : BitVec 32 := 5#32
  let v259 : BitVec 32 := Scalar.addi v2 c5_i32_194
  let c32_i32_195 : BitVec 32 := 32#32
  let v260 : BitVec 32 := Scalar.remsi v259 c32_i32_195
  let c1_i32_200 : BitVec 32 := 1#32
  let v263 : BitVec 32 := Scalar.muli v260 c1_i32_200
  let v264 : BitVec 32 := Scalar.addi c0_i32_201 v263
  v264.toNat
def k0_dev37 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_204 : BitVec 32 := 6#32
  let v271 : BitVec 32 := Scalar.addi v2 c6_i32_204
  let c32_i32_205 : BitVec 32 := 32#32
  let v272 : BitVec 32 := Scalar.remsi v271 c32_i32_205
  let c1_i32_210 : BitVec 32 := 1#32
  let v275 : BitVec 32 := Scalar.muli v272 c1_i32_210
  let v276 : BitVec 32 := Scalar.addi c0_i32_211 v275
  v276.toNat
def k0_dev38 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_214 : BitVec 32 := 7#32
  let v283 : BitVec 32 := Scalar.addi v2 c7_i32_214
  let c32_i32_215 : BitVec 32 := 32#32
  let v284 : BitVec 32 := Scalar.remsi v283 c32_i32_215
  let c1_i32_220 : BitVec 32 := 1#32
  let v287 : BitVec 32 := Scalar.muli v284 c1_i32_220
  let v288 : BitVec 32 := Scalar.addi c0_i32_221 v287
  v288.toNat
def k0_dev39 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_224 : BitVec 32 := 8#32
  let v295 : BitVec 32 := Scalar.addi v2 c8_i32_224
  let c32_i32_225 : BitVec 32 := 32#32
  let v296 : BitVec 32 := Scalar.remsi v295 c32_i32_225
  let c1_i32_230 : BitVec 32 := 1#32
  let v299 : BitVec 32 := Scalar.muli v296 c1_i32_230
  let v300 : BitVec 32 := Scalar.addi c0_i32_231 v299
  v300.toNat
def k0_dev40 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_234 : BitVec 32 := 9#32
  let v307 : BitVec 32 := Scalar.addi v2 c9_i32_234
  let c32_i32_235 : BitVec 32 := 32#32
  let v308 : BitVec 32 := Scalar.remsi v307 c32_i32_235
  let c1_i32_240 : BitVec 32 := 1#32
  let v311 : BitVec 32 := Scalar.muli v308 c1_i32_240
  let v312 : BitVec 32 := Scalar.addi c0_i32_241 v311
  v312.toNat
def k0_dev41 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_244 : BitVec 32 := 10#32
  let v319 : BitVec 32 := Scalar.addi v2 c10_i32_244
  let c32_i32_245 : BitVec 32 := 32#32
  let v320 : BitVec 32 := Scalar.remsi v319 c32_i32_245
  let c1_i32_250 : BitVec 32 := 1#32
  let v323 : BitVec 32 := Scalar.muli v320 c1_i32_250
  let v324 : BitVec 32 := Scalar.addi c0_i32_251 v323
  v324.toNat
def k0_dev42 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_254 : BitVec 32 := 11#32
  let v331 : BitVec 32 := Scalar.addi v2 c11_i32_254
  let c32_i32_255 : BitVec 32 := 32#32
  let v332 : BitVec 32 := Scalar.remsi v331 c32_i32_255
  let c1_i32_260 : BitVec 32 := 1#32
  let v335 : BitVec 32 := Scalar.muli v332 c1_i32_260
  let v336 : BitVec 32 := Scalar.addi c0_i32_261 v335
  v336.toNat
def k0_dev43 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_264 : BitVec 32 := 12#32
  let v343 : BitVec 32 := Scalar.addi v2 c12_i32_264
  let c32_i32_265 : BitVec 32 := 32#32
  let v344 : BitVec 32 := Scalar.remsi v343 c32_i32_265
  let c1_i32_270 : BitVec 32 := 1#32
  let v347 : BitVec 32 := Scalar.muli v344 c1_i32_270
  let v348 : BitVec 32 := Scalar.addi c0_i32_271 v347
  v348.toNat
def k0_dev44 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_274 : BitVec 32 := 13#32
  let v355 : BitVec 32 := Scalar.addi v2 c13_i32_274
  let c32_i32_275 : BitVec 32 := 32#32
  let v356 : BitVec 32 := Scalar.remsi v355 c32_i32_275
  let c1_i32_280 : BitVec 32 := 1#32
  let v359 : BitVec 32 := Scalar.muli v356 c1_i32_280
  let v360 : BitVec 32 := Scalar.addi c0_i32_281 v359
  v360.toNat
def k0_dev45 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_284 : BitVec 32 := 14#32
  let v367 : BitVec 32 := Scalar.addi v2 c14_i32_284
  let c32_i32_285 : BitVec 32 := 32#32
  let v368 : BitVec 32 := Scalar.remsi v367 c32_i32_285
  let c1_i32_290 : BitVec 32 := 1#32
  let v371 : BitVec 32 := Scalar.muli v368 c1_i32_290
  let v372 : BitVec 32 := Scalar.addi c0_i32_291 v371
  v372.toNat
def k0_dev46 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_294 : BitVec 32 := 15#32
  let v379 : BitVec 32 := Scalar.addi v2 c15_i32_294
  let c32_i32_295 : BitVec 32 := 32#32
  let v380 : BitVec 32 := Scalar.remsi v379 c32_i32_295
  let c1_i32_300 : BitVec 32 := 1#32
  let v383 : BitVec 32 := Scalar.muli v380 c1_i32_300
  let v384 : BitVec 32 := Scalar.addi c0_i32_301 v383
  v384.toNat
def k0_dev47 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_304 : BitVec 32 := 16#32
  let v391 : BitVec 32 := Scalar.addi v2 c16_i32_304
  let c32_i32_305 : BitVec 32 := 32#32
  let v392 : BitVec 32 := Scalar.remsi v391 c32_i32_305
  let c1_i32_310 : BitVec 32 := 1#32
  let v395 : BitVec 32 := Scalar.muli v392 c1_i32_310
  let v396 : BitVec 32 := Scalar.addi c0_i32_311 v395
  v396.toNat
def k0_dev48 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_314 : BitVec 32 := 17#32
  let v403 : BitVec 32 := Scalar.addi v2 c17_i32_314
  let c32_i32_315 : BitVec 32 := 32#32
  let v404 : BitVec 32 := Scalar.remsi v403 c32_i32_315
  let c1_i32_320 : BitVec 32 := 1#32
  let v407 : BitVec 32 := Scalar.muli v404 c1_i32_320
  let v408 : BitVec 32 := Scalar.addi c0_i32_321 v407
  v408.toNat
def k0_dev49 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_324 : BitVec 32 := 18#32
  let v415 : BitVec 32 := Scalar.addi v2 c18_i32_324
  let c32_i32_325 : BitVec 32 := 32#32
  let v416 : BitVec 32 := Scalar.remsi v415 c32_i32_325
  let c1_i32_330 : BitVec 32 := 1#32
  let v419 : BitVec 32 := Scalar.muli v416 c1_i32_330
  let v420 : BitVec 32 := Scalar.addi c0_i32_331 v419
  v420.toNat
def k0_dev50 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_334 : BitVec 32 := 19#32
  let v427 : BitVec 32 := Scalar.addi v2 c19_i32_334
  let c32_i32_335 : BitVec 32 := 32#32
  let v428 : BitVec 32 := Scalar.remsi v427 c32_i32_335
  let c1_i32_340 : BitVec 32 := 1#32
  let v431 : BitVec 32 := Scalar.muli v428 c1_i32_340
  let v432 : BitVec 32 := Scalar.addi c0_i32_341 v431
  v432.toNat
def k0_dev51 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_344 : BitVec 32 := 20#32
  let v439 : BitVec 32 := Scalar.addi v2 c20_i32_344
  let c32_i32_345 : BitVec 32 := 32#32
  let v440 : BitVec 32 := Scalar.remsi v439 c32_i32_345
  let c1_i32_350 : BitVec 32 := 1#32
  let v443 : BitVec 32 := Scalar.muli v440 c1_i32_350
  let v444 : BitVec 32 := Scalar.addi c0_i32_351 v443
  v444.toNat
def k0_dev52 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_354 : BitVec 32 := 21#32
  let v451 : BitVec 32 := Scalar.addi v2 c21_i32_354
  let c32_i32_355 : BitVec 32 := 32#32
  let v452 : BitVec 32 := Scalar.remsi v451 c32_i32_355
  let c1_i32_360 : BitVec 32 := 1#32
  let v455 : BitVec 32 := Scalar.muli v452 c1_i32_360
  let v456 : BitVec 32 := Scalar.addi c0_i32_361 v455
  v456.toNat
def k0_dev53 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_364 : BitVec 32 := 22#32
  let v463 : BitVec 32 := Scalar.addi v2 c22_i32_364
  let c32_i32_365 : BitVec 32 := 32#32
  let v464 : BitVec 32 := Scalar.remsi v463 c32_i32_365
  let c1_i32_370 : BitVec 32 := 1#32
  let v467 : BitVec 32 := Scalar.muli v464 c1_i32_370
  let v468 : BitVec 32 := Scalar.addi c0_i32_371 v467
  v468.toNat
def k0_dev54 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_374 : BitVec 32 := 23#32
  let v475 : BitVec 32 := Scalar.addi v2 c23_i32_374
  let c32_i32_375 : BitVec 32 := 32#32
  let v476 : BitVec 32 := Scalar.remsi v475 c32_i32_375
  let c1_i32_380 : BitVec 32 := 1#32
  let v479 : BitVec 32 := Scalar.muli v476 c1_i32_380
  let v480 : BitVec 32 := Scalar.addi c0_i32_381 v479
  v480.toNat
def k0_dev55 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_384 : BitVec 32 := 24#32
  let v487 : BitVec 32 := Scalar.addi v2 c24_i32_384
  let c32_i32_385 : BitVec 32 := 32#32
  let v488 : BitVec 32 := Scalar.remsi v487 c32_i32_385
  let c1_i32_390 : BitVec 32 := 1#32
  let v491 : BitVec 32 := Scalar.muli v488 c1_i32_390
  let v492 : BitVec 32 := Scalar.addi c0_i32_391 v491
  v492.toNat
def k0_dev56 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_394 : BitVec 32 := 25#32
  let v499 : BitVec 32 := Scalar.addi v2 c25_i32_394
  let c32_i32_395 : BitVec 32 := 32#32
  let v500 : BitVec 32 := Scalar.remsi v499 c32_i32_395
  let c1_i32_400 : BitVec 32 := 1#32
  let v503 : BitVec 32 := Scalar.muli v500 c1_i32_400
  let v504 : BitVec 32 := Scalar.addi c0_i32_401 v503
  v504.toNat
def k0_dev57 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_404 : BitVec 32 := 26#32
  let v511 : BitVec 32 := Scalar.addi v2 c26_i32_404
  let c32_i32_405 : BitVec 32 := 32#32
  let v512 : BitVec 32 := Scalar.remsi v511 c32_i32_405
  let c1_i32_410 : BitVec 32 := 1#32
  let v515 : BitVec 32 := Scalar.muli v512 c1_i32_410
  let v516 : BitVec 32 := Scalar.addi c0_i32_411 v515
  v516.toNat
def k0_dev58 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_414 : BitVec 32 := 27#32
  let v523 : BitVec 32 := Scalar.addi v2 c27_i32_414
  let c32_i32_415 : BitVec 32 := 32#32
  let v524 : BitVec 32 := Scalar.remsi v523 c32_i32_415
  let c1_i32_420 : BitVec 32 := 1#32
  let v527 : BitVec 32 := Scalar.muli v524 c1_i32_420
  let v528 : BitVec 32 := Scalar.addi c0_i32_421 v527
  v528.toNat
def k0_dev59 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_424 : BitVec 32 := 28#32
  let v535 : BitVec 32 := Scalar.addi v2 c28_i32_424
  let c32_i32_425 : BitVec 32 := 32#32
  let v536 : BitVec 32 := Scalar.remsi v535 c32_i32_425
  let c1_i32_430 : BitVec 32 := 1#32
  let v539 : BitVec 32 := Scalar.muli v536 c1_i32_430
  let v540 : BitVec 32 := Scalar.addi c0_i32_431 v539
  v540.toNat
def k0_dev60 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_434 : BitVec 32 := 29#32
  let v547 : BitVec 32 := Scalar.addi v2 c29_i32_434
  let c32_i32_435 : BitVec 32 := 32#32
  let v548 : BitVec 32 := Scalar.remsi v547 c32_i32_435
  let c1_i32_440 : BitVec 32 := 1#32
  let v551 : BitVec 32 := Scalar.muli v548 c1_i32_440
  let v552 : BitVec 32 := Scalar.addi c0_i32_441 v551
  v552.toNat
def k0_dev61 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_444 : BitVec 32 := 30#32
  let v559 : BitVec 32 := Scalar.addi v2 c30_i32_444
  let c32_i32_445 : BitVec 32 := 32#32
  let v560 : BitVec 32 := Scalar.remsi v559 c32_i32_445
  let c1_i32_450 : BitVec 32 := 1#32
  let v563 : BitVec 32 := Scalar.muli v560 c1_i32_450
  let v564 : BitVec 32 := Scalar.addi c0_i32_451 v563
  v564.toNat
def k0_dev62 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_454 : BitVec 32 := 31#32
  let v571 : BitVec 32 := Scalar.addi v2 c31_i32_454
  let c32_i32_455 : BitVec 32 := 32#32
  let v572 : BitVec 32 := Scalar.remsi v571 c32_i32_455
  let c1_i32_460 : BitVec 32 := 1#32
  let v575 : BitVec 32 := Scalar.muli v572 c1_i32_460
  let v576 : BitVec 32 := Scalar.addi c0_i32_461 v575
  v576.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x128 : Shape := ⟨2, ![256, 128]⟩
abbrev S1024x1 : Shape := ⟨2, ![1024, 1]⟩
abbrev S128x256x512 : Shape := ⟨3, ![128, 256, 512]⟩
abbrev S1024 : Shape := ⟨1, ![1024]⟩
abbrev S128 : Shape := ⟨1, ![128]⟩
abbrev S1x128 : Shape := ⟨2, ![1, 128]⟩
abbrev S1024x128 : Shape := ⟨2, ![1024, 128]⟩
abbrev S_ : Shape := ⟨0, ![]⟩
abbrev S1024x128x512 : Shape := ⟨3, ![1024, 128, 512]⟩
abbrev S1024x128x1 : Shape := ⟨3, ![1024, 128, 1]⟩
abbrev S1024x512 : Shape := ⟨2, ![1024, 512]⟩

abbrev nBuf : Space → Nat
  | .hbm => 32
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x1, .i32⟩
  | .hbm, ⟨3, _⟩ => ⟨S128x256x512, .bf16⟩
  | .hbm, ⟨4, _⟩ => ⟨S1024, .i32⟩
  | .hbm, ⟨5, _⟩ => ⟨S1024x1, .i32⟩
  | .hbm, ⟨6, _⟩ => ⟨S128, .i32⟩
  | .hbm, ⟨7, _⟩ => ⟨S1x128, .i32⟩
  | .hbm, ⟨8, _⟩ => ⟨S1024x128, .i32⟩
  | .hbm, ⟨9, _⟩ => ⟨S1024x128, .i32⟩
  | .hbm, ⟨10, _⟩ => ⟨S1024x128, .i1⟩
  | .hbm, ⟨11, _⟩ => ⟨S1024x128, .i32⟩
  | .hbm, ⟨12, _⟩ => ⟨S_, .i32⟩
  | .hbm, ⟨13, _⟩ => ⟨S_, .i32⟩
  | .hbm, ⟨14, _⟩ => ⟨S1024x128, .i32⟩
  | .hbm, ⟨15, _⟩ => ⟨S1024x128, .i32⟩
  | .hbm, ⟨16, _⟩ => ⟨S1024x128, .i32⟩
  | .hbm, ⟨17, _⟩ => ⟨S_, .i32⟩
  | .hbm, ⟨18, _⟩ => ⟨S1024x128, .i32⟩
  | .hbm, ⟨19, _⟩ => ⟨S1024x128, .i1⟩
  | .hbm, ⟨20, _⟩ => ⟨S1024x128, .i1⟩
  | .hbm, ⟨21, _⟩ => ⟨S1024x256, .f32⟩
  | .hbm, ⟨22, _⟩ => ⟨S128x256x512, .f32⟩
  | .hbm, ⟨23, _⟩ => ⟨S1024x128x512, .f32⟩
  | .hbm, ⟨24, _⟩ => ⟨S1024x128x1, .i1⟩
  | .hbm, ⟨25, _⟩ => ⟨S_, .f32⟩
  | .hbm, ⟨26, _⟩ => ⟨S_, .f32⟩
  | .hbm, ⟨27, _⟩ => ⟨S1024x128x512, .i1⟩
  | .hbm, ⟨28, _⟩ => ⟨S1024x128x512, .f32⟩
  | .hbm, ⟨29, _⟩ => ⟨S1024x128x512, .f32⟩
  | .hbm, ⟨30, _⟩ => ⟨S_, .f32⟩
  | .hbm, ⟨31, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Proof.KernelIdealRun.Proto.lean ====
/-
# The protocol of one launch

Thirty-two devices. Device `c` signals every other device's barrier cell once, computes its own 24 rows, waits for the
31 signals to its own barrier cell, copies its rows into every other device's gather buffer, waits for the 31 copies
that land in its own, forms its output, and waits until its 31 copies have left.

The signal `c` sends to `p` hands `p` the right to write `p`'s rows of `c`'s gather buffer. A copy takes one of 32
equal parts of the sender's share of its own rows, so that all 31 copies are in flight at once and one part stays for
the sender's own load.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf pointsTo_leaves)

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices around the ring -/

set_option backward.proofsInPublic true in
/-- The device `j` places after `c`. -/
def peer (c : Dev nD) (j : Fin 32) : Dev nD := ⟨(c.val + j.val) % 32, Nat.mod_lt _ (by decide)⟩
set_option backward.proofsInPublic true in
/-- The device `j` places before `c`. -/
def src (c : Dev nD) (j : Fin 32) : Dev nD := ⟨(c.val + 32 - j.val) % 32, Nat.mod_lt _ (by decide)⟩
set_option backward.proofsInPublic true in
/-- How many places `p` lies after `c`. -/
def back (c p : Dev nD) : Fin 32 := ⟨(p.val + 32 - c.val) % 32, Nat.mod_lt _ (by decide)⟩

theorem peer_back (c p : Dev nD) : peer c (back c p) = p := by
  apply Fin.ext; simp only [peer, back]; have := c.isLt; have := p.isLt; simp only [nD] at *; omega
theorem back_peer (c : Dev nD) (j : Fin 32) : back c (peer c j) = j := by
  apply Fin.ext; simp only [peer, back]; have := c.isLt; have := j.isLt; simp only [nD] at *; omega
theorem src_peer (c : Dev nD) (j : Fin 32) : src (peer c j) j = c := by
  apply Fin.ext; simp only [peer, src]; have := c.isLt; have := j.isLt; simp only [nD] at *; omega
theorem peer_src (c : Dev nD) (j : Fin 32) : peer (src c j) j = c := by
  apply Fin.ext; simp only [peer, src]; have := c.isLt; have := j.isLt; simp only [nD] at *; omega
theorem src_zero (c : Dev nD) : src c 0 = c := by
  apply Fin.ext; simp only [src]; have := c.isLt; simp only [nD] at *; show (c.val + 32 - 0) % 32 = _; omega
theorem peer_zero (c : Dev nD) : peer c 0 = c := by
  apply Fin.ext; simp only [peer]; have := c.isLt; simp only [nD] at *; show (c.val + 0) % 32 = _; omega
theorem peer_ne (c : Dev nD) {j : Fin 32} (h : j ≠ 0) : peer c j ≠ c := fun e => h <| by
  have := congrArg Fin.val e; simp only [peer] at this; have h1 := c.isLt; have h2 := j.isLt; simp only [nD] at *
  apply Fin.ext; show j.val = 0; omega

/-- For a fixed device the places around the ring are the devices. -/
def places (c : Dev nD) : Fin 32 ≃ Dev nD := ⟨peer c, back c, back_peer c, peer_back c⟩
/-- For a fixed number of places, stepping is a bijection of the devices. -/
def step (j : Fin 32) : Dev nD ≃ Dev nD := ⟨fun c => peer c j, fun c => src c j, fun c => src_peer c j, fun c => peer_src c j⟩
/-- The senders into `c` are all the devices. -/
def sources (c : Dev nD) : Fin 32 ≃ Dev nD :=
  ⟨src c, fun p => back p c, fun j => by
    apply Fin.ext; simp only [src, back]; have := c.isLt; have := j.isLt; simp only [nD] at *; omega,
   fun p => by
    apply Fin.ext; simp only [src, back]; have := c.isLt; have := p.isLt; simp only [nD] at *; omega⟩

/-! ## The memrefs and the cells -/

abbrev gM : Memref sig .tc .vmem S768x512 .bf16 := Memref.whole cc0_scratch0
/-- Device `o`'s 24 rows of a gather buffer. -/
abbrev gS (o : Dev nD) : Memref sig .tc .vmem S24x512 .bf16 :=
  gM.slice (Rect.unit (s := S768x512) (k0_off2 o) S24x512.size (k0_off2_inb o)) (fun _ => rfl)

abbrev barS : Sem sig := (SemArray.scalar (sig.barrier 0 rfl) : Sems sig S_).sem

theorem inb32 : ∀ j : Fin 32, ∀ a, (![j.val] : Fin 1 → Nat) a + S1.size a ≤ S32.size a := by decide
/-- The `j`-th send semaphore. -/
def sS (j : Fin 32) : DmaSem sig := ((cc0_scratch1.slice (Rect.unit (s := S32) ![j.val] S1.size (inb32 j))).squeeze S_ squeezes_S1_S_).sem
/-- The `j`-th receive semaphore. -/
def rS (j : Fin 32) : DmaSem sig := ((cc0_scratch2.slice (Rect.unit (s := S32) ![j.val] S1.size (inb32 j))).squeeze S_ squeezes_S1_S_).sem

theorem sS_val : ∀ j : Fin 32, (sS j).val = 4 + j.val := by decide
theorem rS_val : ∀ j : Fin 32, (rS j).val = 36 + j.val := by decide

/-- A cell's kind: the barrier, or a transfer cell (`false` a send cell, `true` a receive cell) and its number. -/
abbrev Kd : Type := Unit ⊕ (Bool × Fin 32)

set_option backward.proofsInPublic true in
def kind : SemLoc sig → Kd
  | .reg _ => .inl ()
  | .dma q => .inr (decide (36 ≤ q.val), ⟨(q.val + 28) % 32, Nat.mod_lt _ (by decide)⟩)

/-- The kernel's own (scoped) semaphores. -/
def osem : Bool × Fin 32 → SemLoc sig
  | (false, j) => .dma (sS j)
  | (true, j) => .dma (rS j)
/-- All the semaphores the protocol uses. -/
def csem : Kd → SemLoc sig
  | .inl _ => .reg barS
  | .inr k => osem k

abbrev barCell (c : Dev nD) : GSem nD τ sig := ((c : Thread nD τ), .reg barS)
abbrev sendCell (c : Dev nD) (j : Fin 32) : GSem nD τ sig := ((c : Thread nD τ), .dma (sS j))
abbrev recvCell (c : Dev nD) (j : Fin 32) : GSem nD τ sig := ((c : Thread nD τ), .dma (rS j))
abbrev kcell (ck : Dev nD × Kd) : GSem nD τ sig := ((ck.1 : Thread nD τ), csem ck.2)

theorem kind_send (j : Fin 32) : kind (.dma (sS j)) = .inr (false, j) := by
  have h := sS_val j; have hj := j.isLt
  simp only [kind, h]
  refine congrArg Sum.inr (Prod.ext ?_ (Fin.ext ?_))
  · exact decide_eq_false (by omega)
  · show (4 + j.val + 28) % 32 = j.val; omega
theorem kind_recv (j : Fin 32) : kind (.dma (rS j)) = .inr (true, j) := by
  have h := rS_val j; have hj := j.isLt
  simp only [kind, h]
  refine congrArg Sum.inr (Prod.ext ?_ (Fin.ext ?_))
  · exact decide_eq_true (by omega)
  · show (36 + j.val + 28) % 32 = j.val; omega
theorem kind_csem : ∀ k : Kd, kind (csem k) = k
  | .inl _ => rfl
  | .inr (false, j) => kind_send j
  | .inr (true, j) => kind_recv j

abbrev N : ℕ := (gS 0).view.dmaCredit
theorem N_eq (o : Dev nD) : (gS o).view.dmaCredit = N := rfl
theorem N_pos : 0 < N := View.dmaCredit_pos _ (by decide)

/-! ## Contents -/

/-- Device `c`'s tokens, expert numbers and expert weights, as its windows stage them. -/
def xV (c : Dev nD) : (cc0_stg0_0 : Ref sig .tc).ty.Contents (Elt F) :=
  (win0_0.blk (0 : Fin 1)).view.read (Elt F) ((s₀ m ρ).mem ((c : Thread nD τ).loc main_arg0))
def iV (c : Dev nD) : (cc0_stg1_0 : Ref sig .tc).ty.Contents (Elt F) :=
  (win0_1.blk (0 : Fin 1)).view.read (Elt F) ((s₀ m ρ).mem ((c : Thread nD τ).loc main_arg2))
def wV (c : Dev nD) : (cc0_stg2_0 : Ref sig .tc).ty.Contents (Elt F) :=
  (win0_2.blk (0 : Fin 1)).view.read (Elt F) ((s₀ m ρ).mem ((c : Thread nD τ).loc main_arg3))

abbrev xM : Memref sig .tc .vmem S1024x256 .bf16 := Memref.whole cc0_stg0_0
abbrev iM : Memref sig .tc .vmem S1024x1 .i32 := Memref.whole cc0_stg1_0
abbrev wM : Memref sig .tc .vmem S4x256x512 .bf16 := Memref.whole cc0_stg2_0
abbrev oM : Memref sig .tc .vmem S1024x512 .f32 := Memref.whole cc0_stg3_0

theorem inbW : ∀ j : Fin 4, ∀ a, (![j.val, 0, 0] : Fin 3 → Nat) a + S1x256x512.size a ≤ S4x256x512.size a := by decide
/-- The weights of one of the device's four experts. -/
def wAt (w : (cc0_stg2_0 : Ref sig .tc).ty.Contents (Elt F)) (j : Fin 4) : Vec F S1x256x512 .bf16 :=
  (wM : Memref sig .tc .vmem S4x256x512 .bf16).view.readAt (Elt F) (Rect.unit (s := S4x256x512) ![j.val, 0, 0] S1x256x512.size (inbW j)).toLoadRect w

/-- The 24 rows device `c` computes, from its staged inputs. -/
def rowsOf (c : Dev nD) (x : Vec F S1024x256 .bf16) (i : Vec F S1024x1 .i32) (w : (cc0_stg2_0 : Ref sig .tc).ty.Contents (Elt F)) : FVec F S24x512 .bf16 :=
  let v2 : BitVec 32 := Scalar.remsi (Scalar.divsi (Dev.word c) 1#32) 32#32
  k0_pay11 (k0_pay7 v2 (k0_pay4 i) (k0_pay5 i) 24#32 x)
    (k0_pay8 v2 (k0_pay4 i) (k0_pay5 i) 24#32 x (wAt w 0))
    (k0_pay9 v2 (k0_pay4 i) (k0_pay5 i) 24#32 x (wAt w 1))
    (k0_pay10 v2 (k0_pay4 i) (k0_pay5 i) 24#32 x (wAt w 2)) (wAt w 3)

def yV (c : Dev nD) : FVec F S24x512 .bf16 := rowsOf c (xV m ρ c) (iV m ρ c) (wV m ρ c)

set_option backward.proofsInPublic true in
/-- The device whose rows hold an index of a gather buffer; -/
def ownerOf (i : S768x512.Idx) : Dev nD := ⟨(i 0).val / 24, by have : (i 0).val < 768 := (i 0).isLt; simp only [nD]; omega⟩
set_option backward.proofsInPublic true in
/-- and where in them it lies. -/
def within (i : S768x512.Idx) : S24x512.Idx := fun a => ⟨(![(i 0).val % 24, (i 1).val] : Fin 2 → Nat) a, by
  match a with
  | ⟨0, _⟩ => exact Nat.mod_lt _ (by decide)
  | ⟨1, _⟩ => exact (i 1).isLt⟩

/-- The gather buffer filled: every device's rows. The same on every device. -/
def gathAll : Vec F S768x512 .bf16 := fun i => yV m ρ (ownerOf i) (within i)

/-- Device `c`'s result. -/
def outV (c : Dev nD) : (cc0_stg3_0 : Ref sig .tc).ty.Contents (Elt F) := k0_pay13 (k0_pay12 (k0_pay6 (iV m ρ c))) (gathAll m ρ)

/-! ### Where a device's rows lie -/

theorem emb_row (o : Dev nD) (x : S24x512.Idx) : (((gS o).view.emb x : S768x512.Idx) 0).val = 24 * o.val + (x 0).val := by
  show k0_off2 o 0 + 1 * (x 0).val = _
  rw [k0_off2_eq]; show 24 * o.val + 1 * (x 0).val = _; omega
theorem emb_col (o : Dev nD) (x : S24x512.Idx) : (((gS o).view.emb x : S768x512.Idx) 1).val = (x 1).val := by
  show k0_off2 o 1 + 1 * (x 1).val = _
  rw [k0_off2_eq]; show 0 + 1 * (x 1).val = _; omega

theorem ownerOf_emb (o : Dev nD) (x : S24x512.Idx) : ownerOf ((gS o).view.emb x) = o := by
  apply Fin.ext; show (((gS o).view.emb x : S768x512.Idx) 0).val / 24 = o.val
  rw [emb_row]; have : (x 0).val < 24 := (x 0).isLt; omega
theorem within_emb (o : Dev nD) (x : S24x512.Idx) : within ((gS o).view.emb x) = x := by
  funext a
  match a with
  | ⟨0, _⟩ =>
    apply Fin.ext; show (((gS o).view.emb x : S768x512.Idx) 0).val % 24 = (x 0).val
    rw [emb_row]; have : (x 0).val < 24 := (x 0).isLt; omega
  | ⟨1, _⟩ => apply Fin.ext; show (((gS o).view.emb x : S768x512.Idx) 1).val = (x 1).val; exact emb_col o x
theorem emb_within (i : S768x512.Idx) : (gS (ownerOf i)).view.emb (within i) = i := by
  funext a
  match a with
  | ⟨0, _⟩ =>
    apply Fin.ext
    refine (emb_row (ownerOf i) (within i)).trans ?_
    show 24 * ((i 0).val / 24) + (i 0).val % 24 = (i 0).val; omega
  | ⟨1, _⟩ => apply Fin.ext; exact emb_col (ownerOf i) (within i)

theorem mem_gS (o : Dev nD) (i : S768x512.Idx) : i ∈ (gS o).view.set ↔ ownerOf i = o := by
  constructor
  · intro h
    obtain ⟨x, -, rfl⟩ := Finset.mem_map.mp h
    exact ownerOf_emb o x
  · rintro rfl
    exact Finset.mem_map.mpr ⟨within i, Finset.mem_univ _, emb_within i⟩

theorem gathAll_emb (o : Dev nD) (x : S24x512.Idx) : gathAll m ρ ((gS o).view.emb x : S768x512.Idx) = yV m ρ o x :=
  congr (congrArg (yV m ρ) (ownerOf_emb o x)) (within_emb o x)

theorem gS_disjoint (o o' : Dev nD) (h : o ≠ o') : Disjoint (gS o).view.set (gS o').view.set :=
  Finset.disjoint_left.mpr fun i hi hi' => h (((mem_gS o i).mp hi).symm.trans ((mem_gS o' i).mp hi'))
theorem gS_cover : (Finset.univ : Finset (Dev nD)).biUnion (fun o => (gS o).view.set) = (Finset.univ : Finset S768x512.Idx) := by
  ext i; simp only [Finset.mem_biUnion, Finset.mem_univ, true_and, iff_true]
  exact ⟨ownerOf i, (mem_gS _ _).mpr rfl⟩

/-- Device `o`'s rows of device `p`'s gather buffer, at a share. -/
def rowPts (p o : Dev nD) (q : PosShare TreeShare) (f : (cc0_scratch0 : Ref sig .tc).ty.Contents (Elt F)) : sProp 𝕄 :=
  (gS o).view.loc (p : Thread nD τ) ↦[(gS o).view.set]{q} f

omit [FloatOps F] in
instance rowPts_storable (p o q f) : BI.Storable (upEmb : UEmb _ 𝕄) (rowPts (F := F) p o q f) := by unfold rowPts; infer_instance

/-! ## The schedule -/

abbrev sh (j : Fin 32) : PosShare TreeShare := leaf 5 fullShare j

set_option backward.proofsInPublic true in
/-- One round. A barrier cell has one duty for each other device, paid with that device's rows-to-be; a send cell is
    paid back the part of the share its copy took; a receive cell is paid the landed rows. -/
def Rd : Rounds.Schedule (GSem nD τ sig) (Dev nD) 𝕄 where
  duties g r := if r = 0 then (match kind g.2 with
    | .inl _ => Finset.univ.erase g.1.1
    | .inr k => if k.2 = 0 then ∅ else {(0 : Dev nD)}) else ∅
  unitless _ := False
  amount g _ _ := match kind g.2 with | .inl _ => 1 | .inr _ => N
  payload g _ d := match kind g.2 with
    | .inl _ => iprop(∃ f, rowPts d g.1.1 fullShare f)
    | .inr (false, j) => rowPts g.1.1 g.1.1 (sh j) (gathAll m ρ)
    | .inr (true, j) => rowPts g.1.1 (src g.1.1 j) fullShare (gathAll m ρ)
  amount_pos g _ _ _ := by
    split
    · exact Nat.one_pos
    · exact N_pos

instance Rd_payload_storable (g : GSem nD τ sig) (r : ℕ) (d : Dev nD) :
    BI.Storable (upEmb : UEmb _ 𝕄) ((Rd (F := F) m ρ).payload g r d) := by
  show BI.Storable upEmb (match kind g.2 with
    | .inl _ => iprop(∃ f, rowPts d g.1.1 fullShare f)
    | .inr (false, j) => rowPts g.1.1 g.1.1 (sh j) (gathAll m ρ)
    | .inr (true, j) => rowPts g.1.1 (src g.1.1 j) fullShare (gathAll m ρ))
  split <;> infer_instance

section Sched
variable (c : Dev nD) (j : Fin 32)

theorem duties_bar : (Rd (F := F) m ρ).duties (barCell c) 0 = Finset.univ.erase c := rfl
theorem duties_send (h : j ≠ 0) : (Rd (F := F) m ρ).duties (sendCell c j) 0 = {0} := by
  dsimp only [Rd]; rw [if_pos rfl, kind_send]; exact if_neg h
theorem duties_recv (h : j ≠ 0) : (Rd (F := F) m ρ).duties (recvCell c j) 0 = {0} := by
  dsimp only [Rd]; rw [if_pos rfl, kind_recv]; exact if_neg h
theorem duties_zero (b : Bool) (r : ℕ) : (Rd (F := F) m ρ).duties (kcell (c, .inr (b, 0))) r = ∅ := by
  dsimp only [Rd]; rw [kind_csem]; by_cases h : r = 0
  · rw [if_pos h]; exact if_pos rfl
  · exact if_neg h
theorem duties_later (g : GSem nD τ sig) : ∀ r, 1 ≤ r → (Rd (F := F) m ρ).duties g r = ∅ :=
  fun r hr => by dsimp only [Rd]; exact if_neg (by omega)

theorem amount_bar (d : Dev nD) : (Rd (F := F) m ρ).amount (barCell c) 0 d = 1 := rfl
theorem amount_send (d : Dev nD) : (Rd (F := F) m ρ).amount (sendCell c j) 0 d = N := by dsimp only [Rd]; rw [kind_send]
theorem amount_recv (d : Dev nD) : (Rd (F := F) m ρ).amount (recvCell c j) 0 d = N := by dsimp only [Rd]; rw [kind_recv]

theorem expect_bar : (Rd (F := F) m ρ).expect (barCell c) 0 = 31 := by
  unfold Schedule.expect Schedule.amountOf
  rw [duties_bar, Finset.sum_congr rfl fun d _ => amount_bar m ρ c d, Finset.sum_const, Finset.card_erase_of_mem (Finset.mem_univ _),
    Finset.card_univ, Fintype.card_fin]
  rfl
theorem expect_send (h : j ≠ 0) : (Rd (F := F) m ρ).expect (sendCell c j) 0 = N := by
  unfold Schedule.expect Schedule.amountOf; rw [duties_send m ρ c j h, Finset.sum_singleton, amount_send]
theorem expect_recv (h : j ≠ 0) : (Rd (F := F) m ρ).expect (recvCell c j) 0 = N := by
  unfold Schedule.expect Schedule.amountOf; rw [duties_recv m ρ c j h, Finset.sum_singleton, amount_recv]

theorem payload_bar (d : Dev nD) : (Rd (F := F) m ρ).payload (barCell c) 0 d = iprop(∃ f, rowPts d c fullShare f) := rfl
theorem payload_send (d : Dev nD) : (Rd (F := F) m ρ).payload (sendCell c j) 0 d = rowPts c c (sh j) (gathAll m ρ) := by
  dsimp only [Rd]; rw [kind_send]
theorem payload_recv (d : Dev nD) : (Rd (F := F) m ρ).payload (recvCell c j) 0 d = rowPts c (src c j) fullShare (gathAll m ρ) := by
  dsimp only [Rd]; rw [kind_recv]

/-- What the barrier wait brings: the right to write `c`'s rows on each other device. -/
theorem rest_bar : bigSep ((Rd (F := F) m ρ).duties (barCell c) 0 \ ∅) (fun d => (Rd (F := F) m ρ).payload (barCell c) 0 d)
    = bigSep (Finset.univ.erase c) fun d => iprop(∃ f, rowPts d c fullShare f) := by
  rw [Finset.sdiff_empty, duties_bar]; rfl
theorem rest_send (h : j ≠ 0) : bigSep ((Rd (F := F) m ρ).duties (sendCell c j) 0 \ ∅) (fun d => (Rd (F := F) m ρ).payload (sendCell c j) 0 d)
    = rowPts c c (sh j) (gathAll m ρ) := by
  rw [Finset.sdiff_empty, duties_send m ρ c j h, bigSep_singleton, payload_send]
theorem rest_recv (h : j ≠ 0) : bigSep ((Rd (F := F) m ρ).duties (recvCell c j) 0 \ ∅) (fun d => (Rd (F := F) m ρ).payload (recvCell c j) 0 d)
    = rowPts c (src c j) fullShare (gathAll m ρ) := by
  rw [Finset.sdiff_empty, duties_recv m ρ c j h, bigSep_singleton, payload_recv]

end Sched

/-! ## What each core owes at launch; the levels -/

abbrev run32 (a : ℕ) : Finset (Fin 32) := Ring.rangeSet 32 a 32

/-- The receive credits `c` still owes from the `a`-th place on; -/
def Orecv (c : Dev nD) (a : ℕ) : CellTallies nD τ sig Unit := ∑ j ∈ run32 a, tallyAt (recvCell (peer c j) j) () N
/-- the barrier units. -/
def Obar (c : Dev nD) (a : ℕ) : CellTallies nD τ sig Unit := ∑ j ∈ run32 a, tallyAt (barCell (peer c j)) () 1
def O₀ (c : Dev nD) : CellTallies nD τ sig Unit := Orecv c 1 + Obar c 1

def L (g : GSem nD τ sig) : Finset Unit := if g.1.2 = .tc then {()} else ∅
/-- Barrier cells at 1, receive cells at 2, everything else (staging, send) at 0. -/
def lv (g : GSem nD τ sig) (_ : Unit) : ℕ := match kind g.2 with | .inl _ => 1 | .inr k => if k.1 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (j : Fin 32) (u : Unit) : lv (recvCell c j) u = 2 := by unfold lv; rw [kind_recv]; rfl
theorem lv_low (c : Dev nD) (q : DmaSem sig) (h : q.val < 36) (u : Unit) : lv ((c : Thread nD τ), .dma q) u = 0 := by
  unfold lv kind; simp only; rw [decide_eq_false (by omega)]; rfl

theorem sum_pos {s : Finset (Fin 32)} {f : Fin 32 → CellTallies nD τ sig Unit} {g : GSem nD τ sig} {u : Unit}
    (h : 0 < (∑ j ∈ s, f j) g u) : ∃ j ∈ s, 0 < f j g u := by
  rw [Finset.sum_apply, Finsupp.finset_sum_apply] at h
  by_contra hn
  push Not at hn
  exact absurd h (by rw [Finset.sum_eq_zero fun j hj => Nat.le_zero.mp (hn j hj)]; exact Nat.lt_irrefl 0)

theorem Orecv_pos {c : Dev nD} {a : ℕ} {g : GSem nD τ sig} {u : Unit} (h : 0 < Orecv c a g u) : ∃ j, g = recvCell (peer c j) j := by
  obtain ⟨j, -, hj⟩ := sum_pos h
  exact ⟨j, (Pipeline.tallyAt_pos hj).1⟩
theorem O₀_pos {c : Dev nD} {g : GSem nD τ sig} {u : Unit} (h : 0 < O₀ c g u) :
    (∃ j, g = recvCell (peer c j) j) ∨ ∃ j, g = barCell (peer c j) := by
  unfold O₀ at h
  rw [Pi.add_apply, Finsupp.add_apply] at h
  rcases Nat.lt_or_ge 0 (Orecv c 1 g u) with h1 | h1
  · exact .inl (Orecv_pos h1)
  · obtain ⟨j, -, hj⟩ := sum_pos (s := run32 1) (f := fun j => tallyAt (barCell (peer c j)) () 1) (g := g) (u := u) (by unfold Obar at h; omega)
    exact .inr ⟨j, (Pipeline.tallyAt_pos hj).1⟩

omit [FloatOps F] in
theorem mayWait_stage (c : Dev nD) (q : DmaSem sig) (hq : q.val < 36) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp, lv_low c q hq])
      (fun g u hg => by
        rcases O₀_pos hg with ⟨j, rfl⟩ | ⟨j, rfl⟩
        · rw [lv_recv]; decide
        · rw [lv_bar]; decide)
  · rw [MayWait_zero]; iintro -; iempintro

omit [FloatOps F] in
/-- At its barrier wait a device owes receive credits only, and those lie above its barrier cell. -/
theorem mayWait_bar (c : Dev nD) : (levAts L lv : sProp 𝕄) ⊢ MayWait (c : Thread nD τ) (.reg barS) () (Orecv c 1) :=
  MayOwe.of_cut (L := L) (lev := lv) 1 (fun p hp => by rw [Finset.mem_singleton.mp hp, L_tc]; exact Finset.mem_singleton_self _)
    (fun g u hg => by obtain ⟨j, rfl⟩ := Orecv_pos hg; exact Finset.mem_singleton_self _)
    (fun p hp => by rw [Finset.mem_singleton.mp hp, lv_bar])
    (fun g u hg => by obtain ⟨j, rfl⟩ := Orecv_pos hg; rw [lv_recv]; decide)

end Cert.KernelIdealRun

end
-- ==== Proof.KernelIdealRun.Steps.lean ====
/-
# One rule for each kind of step

The kernel's operations on the ring come in four runs of 31: signals, copies, waits for landings, waits for departures.
Each run has one rule here, for its `j`-th operation, from the run's state before that operation to the state after.
-/
module

public import proofs.«01_k».proof.Proof.KernelIdealRun.Proto

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf pointsTo_leaves)
open Idealize.ShloMosaic.Ring (rangeSet bigSep_rangeSet_head bigSep_rangeSet_last)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell's invariant, under the names the launch allocated them at, and that every cell's round 0 is reached. -/
def records (K : Dev nD × Kd → ℕ) : sProp 𝕄 :=
  iprop((bigSep Finset.univ fun ck : Dev nD × Kd => cellInv ER (Rd m ρ) (K ck) (kcell ck))
    ∗ bigSep Finset.univ fun ck : Dev nD × Kd => reached ER (kcell ck) 0)

instance records_persistent (K : Dev nD × Kd → ℕ) : BI.Persistent (records m ρ K) := by unfold records; infer_instance

theorem inv_of (K : Dev nD × Kd → ℕ) (ck : Dev nD × Kd) :
    (bigSep Finset.univ fun ck : Dev nD × Kd => (cellInv ER (Rd m ρ) (K ck) (kcell ck) : sProp 𝕄)) ⊢ cellInv ER (Rd m ρ) (K ck) (kcell ck) :=
  bigSep_elim (Finset.mem_univ ck)
omit [FloatOps F] in
theorem reached_of (ck : Dev nD × Kd) :
    (bigSep Finset.univ fun ck : Dev nD × Kd => (reached ER (kcell ck) 0 : sProp 𝕄)) ⊢ reached ER (kcell ck) 0 :=
  bigSep_elim (Finset.mem_univ ck)
theorem inv_at (K : Dev nD × Kd → ℕ) (ck : Dev nD × Kd) : records m ρ K ⊢ cellInv ER (Rd m ρ) (K ck) (kcell ck) := by
  unfold records
  iintro ⟨H, -⟩
  iapply (inv_of m ρ K ck); iexact H
theorem reached_at (K : Dev nD × Kd → ℕ) (ck : Dev nD × Kd) : records m ρ K ⊢ reached ER (kcell ck) 0 := by
  unfold records
  iintro ⟨-, H⟩
  iapply (reached_of (F := F) ck); iexact H

/-- What a device owes, whatever waits it has recorded. -/
def owesE (c : Dev nD) (O : CellTallies nD τ sig Unit) : sProp 𝕄 := iprop(∃ W, owes (c : Thread nD τ) O W)

theorem Obar_head (c : Dev nD) (j : Fin 32) : Obar c j.val = Obar c (j.val + 1) + tallyAt (barCell (peer c j)) () 1 := by
  unfold Obar run32
  rw [Ring.rangeSet_head j.isLt j.isLt, Finset.sum_insert (Ring.head_not_mem_rangeSet j.isLt), add_comm]
theorem Orecv_head (c : Dev nD) (j : Fin 32) : Orecv c j.val = Orecv c (j.val + 1) + tallyAt (recvCell (peer c j) j) () N := by
  unfold Orecv run32
  rw [Ring.rangeSet_head j.isLt j.isLt, Finset.sum_insert (Ring.head_not_mem_rangeSet j.isLt), add_comm]
theorem Obar_end (c : Dev nD) : Obar c 32 = 0 := by unfold Obar run32; rw [Ring.rangeSet_empty le_rfl, Finset.sum_empty]
theorem Orecv_end (c : Dev nD) : Orecv c 32 = 0 := by unfold Orecv run32; rw [Ring.rangeSet_empty le_rfl, Finset.sum_empty]

/-! ## The four runs' states -/

def sigItem (c : Dev nD) (j : Fin 32) : sProp 𝕄 := iprop(dutyTok ER (barCell (peer c j)) 0 c ∗ ∃ f, rowPts c (peer c j) fullShare f)
/-- Before the `a`-th signal. -/
def sigSt (c : Dev nD) (a : ℕ) : sProp 𝕄 := iprop(owesE c (Orecv c 1 + Obar c a) ∗ bigSep (run32 a) fun j => sigItem c j)

def sendItem (c : Dev nD) (j : Fin 32) : sProp 𝕄 :=
  iprop((∃ f, rowPts (peer c j) c fullShare f) ∗ rowPts c c (sh j) (gathAll m ρ)
    ∗ dutyTok ER (sendCell c j) 0 (0 : Dev nD) ∗ dutyTok ER (recvCell (peer c j) j) 0 (0 : Dev nD))
/-- Before the `a`-th copy. -/
def sendSt (c : Dev nD) (a : ℕ) : sProp 𝕄 :=
  iprop(owesE c (Orecv c a) ∗ (bigSep (run32 a) fun j => sendItem m ρ c j) ∗ bigSep (rangeSet 32 1 a) fun j => cred (tallyAt (sendCell c j) () N))

def recvItem (c : Dev nD) (j : Fin 32) : sProp 𝕄 := iprop(cred (tallyAt (recvCell c j) () N) ∗ atPos ER (recvCell c j) 0 ∅ 0)
def recvDone (c : Dev nD) (j : Fin 32) : sProp 𝕄 := iprop(atPos ER (recvCell c j) 1 ∅ 0 ∗ rowPts c (src c j) fullShare (gathAll m ρ))
/-- Before the `a`-th wait for a landing. -/
def recvSt (c : Dev nD) (a : ℕ) : sProp 𝕄 :=
  iprop(owesE c 0 ∗ (bigSep (run32 a) fun j => recvItem c j) ∗ bigSep (rangeSet 32 1 a) fun j => recvDone m ρ c j)

def leftItem (c : Dev nD) (j : Fin 32) : sProp 𝕄 := iprop(cred (tallyAt (sendCell c j) () N) ∗ atPos ER (sendCell c j) 0 ∅ 0)
def leftDone (c : Dev nD) (j : Fin 32) : sProp 𝕄 := iprop(atPos ER (sendCell c j) 1 ∅ 0 ∗ rowPts c c (sh j) (gathAll m ρ))
/-- Before the `a`-th wait for a departure. -/
def leftSt (c : Dev nD) (a : ℕ) : sProp 𝕄 :=
  iprop(owesE c 0 ∗ (bigSep (run32 a) fun j => leftItem c j) ∗ bigSep (rangeSet 32 1 a) fun j => leftDone m ρ c j)

theorem head (Φ : Fin 32 → sProp 𝕄) (j : Fin 32) : bigSep (run32 j.val) Φ = iprop(Φ j ∗ bigSep (run32 (j.val + 1)) Φ) :=
  bigSep_rangeSet_head (NB := 32) (lo := j.val) (hi := 32) j.isLt j.isLt
theorem last (Φ : Fin 32 → sProp 𝕄) (j : Fin 32) (h : 1 ≤ j.val) : bigSep (rangeSet 32 1 (j.val + 1)) Φ = iprop(Φ j ∗ bigSep (rangeSet 32 1 j.val) Φ) :=
  bigSep_rangeSet_last (NB := 32) (lo := 1) (hi := j.val + 1) (by omega) (by omega)

section Step

variable (K : Dev nD × Kd → ℕ) (c : Dev nD) (j : Fin 32)

/-- The `j`-th signal, to the device `j` places on. -/
theorem wp_sig {R : sProp 𝕄} {α : Type} {Q : α → sProp 𝕄}
    {k : PUnit → Prog (TpuEff nD τ sig (Elt F) Λ₀ .tc) α}
    (hj : j ≠ 0) {n : Dev nD} (hn : n = peer c j) {b : Sem sig} (hb : b = barS) {w : Int} (hw : w = 1)
    (h : iprop(records m ρ K ∗ sigSt c (j.val + 1) ∗ R) ⊢ wp frame (wpE (defs₀ (F := F)) 𝒱₀ c none) Set.univ (k ⟨⟩) Q) :
    iprop(records m ρ K ∗ sigSt c j.val ∗ R)
      ⊢ wp frame (wpE (defs₀ (F := F)) 𝒱₀ c none) Set.univ (.op (.semSignal (n, .tc) b w) k) Q := by
  subst hn hb hw
  have h1 : 1 ≤ j.val := Nat.one_le_iff_ne_zero.mpr fun e => hj (Fin.ext e)
  iintro ⟨#HK, Hs, HR⟩
  unfold sigSt owesE
  rw [head]
  unfold sigItem
  icases Hs with ⟨⟨%W, HO⟩, ⟨Ht, Hp⟩, Hrest⟩
  rw [Obar_head c j, ← add_assoc]
  iapply (Rounds.wp_signal 𝒱₀ ER (Rd m ρ) (c : Thread nD τ) none (dst := (peer c j : Thread nD τ)) (κ := K (peer c j, .inl ()))
      (d := c) (by rw [duties_bar]; exact Finset.mem_erase.mpr ⟨(peer_ne c hj).symm, Finset.mem_univ _⟩) (amount_bar m ρ (peer c j) c) ()
      (Orecv c 1 + Obar c (j.val + 1)) rfl) $$ [HO Ht Hp]
  · isplitr; · iapply (inv_at m ρ K (peer c j, .inl ())); iexact HK
    isplitl [HO]; · iexact HO
    isplitl [Ht]; · iexact Ht
    isplitl [Hp]; · rw [payload_bar]; iexact Hp
    iapply (reached_at m ρ K (peer c j, .inl ())); iexact HK
  iintro HO
  iapply h
  isplitr; · iexact HK
  isplitr [HR]
  · unfold sigSt owesE
    isplitl [HO]; · iexists W; iexact HO
    iexact Hrest
  iexact HR

/-- The landing of `c`'s rows in another device's buffer leaves those rows as the filled buffer has them. -/
theorem landed (p : Dev nD) (fd : (cc0_scratch0 : Ref sig .tc).ty.Contents (Elt F)) :
    ((gS c).view.loc (p : Thread nD τ) ↦[(gS c).view.set]{fullShare} ((gS c).view.write (Elt F) fd ((gS c).view.read (Elt F) (gathAll m ρ)) Finset.univ) : sProp 𝕄)
      = rowPts p c fullShare (gathAll m ρ) := by
  unfold rowPts
  refine pointsTo_congr fun i hi => ?_
  obtain ⟨x, -, rfl⟩ := Finset.mem_map.mp hi
  rw [View.write_emb_of_mem _ _ (Finset.mem_univ x)]
  rfl

theorem amount_eq (c : Dev nD) (j : Fin 32) : (gS c).view.amount (.dma (rS j)) = N := N_eq c

set_option maxHeartbeats 1000000 in
/-- The `j`-th copy, into the device `j` places on. -/
theorem wp_copy {R : sProp 𝕄} {α : Type} {Q : α → sProp 𝕄}
    {k : PUnit → Prog (TpuEff nD τ sig (Elt F) Λ₀ .tc) α}
    (hj : j ≠ 0) {n : Dev nD} (hn : n = peer c j) {s r : SemLoc sig} (hs : s = .dma (sS j)) (hr : r = .dma (rS j))
    {hsc : (gS c : Memref sig (Dev.tc n : Thread nD τ).2.kind .vmem S24x512 .bf16).view.ref.isScScratch = false}
    {hsrc : (gS c).view.WordExact} {hdst : (gS c).view.WordExact}
    {hsem : DmaTarget.Typed .vmem r (.remote (Dev.tc n : Thread nD τ) (gS c) s hsc)}
    (h : iprop(records m ρ K ∗ sendSt m ρ c (j.val + 1) ∗ R) ⊢ wp frame (wpE (defs₀ (F := F)) 𝒱₀ c none) Set.univ (k ⟨⟩) Q) :
    iprop(records m ρ K ∗ sendSt m ρ c j.val ∗ R)
      ⊢ wp frame (wpE (defs₀ (F := F)) 𝒱₀ c none) Set.univ
          (.op (.enqueueDma (gS c) (.remote (Dev.tc n : Thread nD τ) (gS c) s hsc) r hsrc hdst hsem) k) Q := by
  subst hn hs hr
  have h1 : 1 ≤ j.val := Nat.one_le_iff_ne_zero.mpr fun e => hj (Fin.ext e)
  iintro ⟨#HK, Hs, HR⟩
  unfold sendSt owesE
  rw [head]
  unfold sendItem
  icases Hs with ⟨⟨%W, HO⟩, ⟨⟨⟨%fd, Hd⟩, Hsrc, HtS, HtR⟩, Hrest⟩, Hcr⟩
  rw [Orecv_head c j]
  unfold rowPts
  iapply (Rounds.wp_send_pointsTo 𝒱₀ ER (Rd m ρ) (c : Thread nD τ) none (κ₁ := K (c, .inr (false, j))) (κ₂ := K (peer c j, .inr (true, j)))
    (r₁ := 0) (r₂ := 0) (d₁ := (0 : Dev nD)) (d₂ := (0 : Dev nD)) (fd := fd)
    (by rw [duties_send m ρ c j hj]; exact Finset.mem_singleton_self _) (by rw [duties_recv m ρ (peer c j) j hj]; exact Finset.mem_singleton_self _)
    () () N (amount_eq c j) (amount_send m ρ c j 0) (amount_recv m ρ (peer c j) j 0) (Orecv c (j.val + 1)) rfl (W := W)
    (by rw [payload_send]; exact BI.Entails.refl _)
    (by rw [payload_recv, src_peer]; exact Entails.of_eq (landed m ρ c (peer c j) fd))) $$ [HO Hd Hsrc HtS HtR]
  · isplitr; · iapply (inv_at m ρ K (c, .inr (false, j))); iexact HK
    isplitr; · iapply (inv_at m ρ K (peer c j, .inr (true, j))); iexact HK
    isplitl [Hsrc]; · iexact Hsrc
    isplitl [Hd]; · iexact Hd
    isplitl [HO]; · iexact HO
    isplitl [HtS]; · iexact HtS
    isplitr; · iapply (reached_at m ρ K (c, .inr (false, j))); iexact HK
    isplitl [HtR]; · iexact HtR
    iapply (reached_at m ρ K (peer c j, .inr (true, j))); iexact HK
  iintro ⟨Hc, HO⟩
  iapply h
  isplitr; · iexact HK
  isplitr [HR]
  · unfold sendSt owesE
    rw [last _ j h1]
    isplitl [HO]; · iexists W; iexact HO
    isplitl [Hrest]; · iexact Hrest
    isplitl [Hc] <;> iassumption
  iexact HR

/-- The wait for the landing from the device `j` places back. -/
theorem wp_land {R : sProp 𝕄} {α : Type} {Q : α → sProp 𝕄}
    {k : PUnit → Prog (TpuEff nD τ sig (Elt F) Λ₀ .tc) α}
    (hj : j ≠ 0) {q : DmaSem sig} (hq : q = rS j) {o o' : Dev nD} {hsrc : (gS o).view.WordExact} {hdst : (gS o').view.WordExact}
    (h : iprop(records m ρ K ∗ recvSt m ρ c (j.val + 1) ∗ R) ⊢ wp frame (wpE (defs₀ (F := F)) 𝒱₀ c none) Set.univ (k ⟨⟩) Q) :
    iprop(records m ρ K ∗ recvSt m ρ c j.val ∗ R)
      ⊢ wp frame (wpE (defs₀ (F := F)) 𝒱₀ c none) Set.univ (.op (.waitDma2 q (gS o) (gS o') hsrc hdst) k) Q := by
  subst hq
  have h1 : 1 ≤ j.val := Nat.one_le_iff_ne_zero.mpr fun e => hj (Fin.ext e)
  iintro ⟨#HK, Hs, HR⟩
  unfold recvSt owesE
  rw [head]
  unfold recvItem
  icases Hs with ⟨⟨%W, HO⟩, ⟨⟨Hc, Hat⟩, Hrest⟩, Hdone⟩
  iapply (Rounds.wp_wait_rest_token 𝒱₀ ER (Rd m ρ) (c : Thread nD τ) none (κ := K (c, .inr (true, j)))
      (wpE_waitDma2_eq 𝒱₀ (c : Thread nD τ) none Set.univ) (Set.mem_univ _) () (O := 0) (W := W) (R := 0) (m := 0) (T := ∅)
      (by rw [Nat.zero_add, expect_recv m ρ c j hj])) $$ [Hc HO Hat]
  · isplitr; · iapply (inv_at m ρ K (c, .inr (true, j))); iexact HK
    isplitl [Hc]; · iexact Hc
    isplitl [HO]; · iexact HO
    isplitr; · rw [MayWait_zero]; iempintro
    iexact Hat
  iintro ⟨HO, Hat, -, Hpay⟩
  ihave Hp := (Entails.of_eq (rest_recv m ρ c j hj)) $$ Hpay
  iapply h
  isplitr; · iexact HK
  isplitr [HR]
  · unfold recvSt owesE
    rw [last _ j h1]
    isplitl [HO]; · iexists (insert (SemLoc.dma (rS j), ()) W); iexact HO
    isplitl [Hrest]; · iexact Hrest
    isplitl [Hat Hp]
    · unfold recvDone
      isplitl [Hat] <;> iassumption
    iexact Hdone
  iexact HR

/-- The wait for the departure of the copy to the device `j` places on. -/
theorem wp_left {R : sProp 𝕄} {α : Type} {Q : α → sProp 𝕄}
    {k : PUnit → Prog (TpuEff nD τ sig (Elt F) Λ₀ .tc) α}
    (hj : j ≠ 0) {q : DmaSem sig} (hq : q = sS j) {o o' : Dev nD} {hsrc : (gS o).view.WordExact} {hdst : (gS o').view.WordExact}
    (h : iprop(records m ρ K ∗ leftSt m ρ c (j.val + 1) ∗ R) ⊢ wp frame (wpE (defs₀ (F := F)) 𝒱₀ c none) Set.univ (k ⟨⟩) Q) :
    iprop(records m ρ K ∗ leftSt m ρ c j.val ∗ R)
      ⊢ wp frame (wpE (defs₀ (F := F)) 𝒱₀ c none) Set.univ (.op (.waitDma2 q (gS o) (gS o') hsrc hdst) k) Q := by
  subst hq
  have h1 : 1 ≤ j.val := Nat.one_le_iff_ne_zero.mpr fun e => hj (Fin.ext e)
  iintro ⟨#HK, Hs, HR⟩
  unfold leftSt owesE
  rw [head]
  unfold leftItem
  icases Hs with ⟨⟨%W, HO⟩, ⟨⟨Hc, Hat⟩, Hrest⟩, Hdone⟩
  iapply (Rounds.wp_wait_rest_token 𝒱₀ ER (Rd m ρ) (c : Thread nD τ) none (κ := K (c, .inr (false, j)))
      (wpE_waitDma2_eq 𝒱₀ (c : Thread nD τ) none Set.univ) (Set.mem_univ _) () (O := 0) (W := W) (R := 0) (m := 0) (T := ∅)
      (by rw [Nat.zero_add, expect_send m ρ c j hj])) $$ [Hc HO Hat]
  · isplitr; · iapply (inv_at m ρ K (c, .inr (false, j))); iexact HK
    isplitl [Hc]; · iexact Hc
    isplitl [HO]; · iexact HO
    isplitr; · rw [MayWait_zero]; iempintro
    iexact Hat
  iintro ⟨HO, Hat, -, Hpay⟩
  ihave Hp := (Entails.of_eq (rest_send m ρ c j hj)) $$ Hpay
  iapply h
  isplitr; · iexact HK
  isplitr [HR]
  · unfold leftSt owesE
    rw [last _ j h1]
    isplitl [HO]; · iexists (insert (SemLoc.dma (sS j), ()) W); iexact HO
    isplitl [Hrest]; · iexact Hrest
    isplitl [Hat Hp]
    · unfold leftDone
      isplitl [Hat] <;> iassumption
    iexact Hdone
  iexact HR

end Step

end Cert.KernelIdealRun

end
-- ==== Proof.KernelIdealRun.Rows.lean ====
/-
# A device's rows, what it starts from and what it leaves

The gather buffer held row by row and share by share, and the states between the four runs.
-/
module

public import proofs.«01_k».proof.Proof.KernelIdealRun.Steps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf pointsTo_leaves)
open Idealize.ShloMosaic.Ring (rangeSet bigSep_rangeSet_head bigSep_rangeSet_last)

variable {F : FTy → Type} [FloatOps F]

local notation "𝕄" => MT nD τ sig Unit (Elt F) ℕ UU ℕ

variable (m : (ℓ : Loc nD τ sig) → Buf (Elt F) ℓ) (ρ : Dev nD → PrngReg)

/-! ## The gather buffer by rows -/

theorem univ32 (Φ : Fin 32 → sProp 𝕄) : bigSep Finset.univ Φ = iprop(Φ 0 ∗ bigSep (run32 1) Φ) := by
  rw [← Ring.rangeSet_univ]; exact bigSep_rangeSet_head (NB := 32) (lo := 0) (hi := 32) (by decide) (by decide)

omit [FloatOps F] in
/-- A gather buffer is its 32 devices' rows. -/
theorem whole_rows (p : Dev nD) (q : PosShare TreeShare) (f : Buf (Elt F) ((p : Thread nD τ).loc cc0_scratch0)) :
    (((p : Thread nD τ).loc cc0_scratch0) ↦{q} f : sProp 𝕄) = bigSep Finset.univ fun o : Dev nD => rowPts p o q f :=
  Ring.pointsTo_blocks (ℓ := (p : Thread nD τ).loc cc0_scratch0) (fun o : Dev nD => (gS o).view.set) gS_disjoint gS_cover f

theorem whole_peers (c : Dev nD) (q : PosShare TreeShare) (f : Buf (Elt F) ((c : Thread nD τ).loc cc0_scratch0)) :
    (((c : Thread nD τ).loc cc0_scratch0) ↦{q} f : sProp 𝕄) = iprop(rowPts c c q f ∗ bigSep (run32 1) fun j => rowPts c (peer c j) q f) := by
  rw [whole_rows, bigSep_univ_equiv (places c) (fun o : Dev nD => rowPts c o q f), univ32]
  show iprop(rowPts c (peer c 0) q f ∗ _) = _
  rw [peer_zero]; rfl
theorem whole_sources (c : Dev nD) (q : PosShare TreeShare) (f : Buf (Elt F) ((c : Thread nD τ).loc cc0_scratch0)) :
    (((c : Thread nD τ).loc cc0_scratch0) ↦{q} f : sProp 𝕄) = iprop(rowPts c c q f ∗ bigSep (run32 1) fun j => rowPts c (src c j) q f) := by
  rw [whole_rows, bigSep_univ_equiv (sources c) (fun o : Dev nD => rowPts c o q f), univ32]
  show iprop(rowPts c (src c 0) q f ∗ _) = _
  rw [src_zero]; rfl

/-- A device's rows at full share are those rows at the 32 parts of it. -/
theorem row_leaves (p o : Dev nD) (f : (cc0_scratch0 : Ref sig .tc).ty.Contents (Elt F)) :
    (rowPts p o fullShare f : sProp 𝕄) = iprop(rowPts p o (sh 0) f ∗ bigSep (run32 1) fun j => rowPts p o (sh j) f) := by
  unfold rowPts
  rw [pointsTo_leaves _ _ 5 fullShare]
  exact univ32 _

/-- For its one load of the whole buffer a device holds a part of every device's rows. -/
theorem gather_rows (c : Dev nD) (f : Buf (Elt F) ((c : Thread nD τ).loc cc0_scratch0)) :
    (iprop(rowPts c c (sh 0) f ∗ bigSep (run32 1) fun j => rowPts c (src c j) fullShare f) : sProp 𝕄)
      = iprop((((c : Thread nD τ).loc cc0_scratch0) ↦{sh 0} f) ∗ bigSep (run32 1) fun j => bigSep (run32 1) fun i => rowPts c (src c j) (sh i) f) := by
  rw [whole_sources, bigSep_congr (s := run32 1) (fun j _ => row_leaves c (src c j) f), bigSep_sep']
  exact Idealize.SL.BI.Entails.antisymm Idealize.SL.BI.sep_assoc' Idealize.SL.BI.sep_assoc

/-- The other devices, by their place after `c`. -/
theorem others (c : Dev nD) (Φ : Dev nD → sProp 𝕄) : bigSep (Finset.univ.erase c) Φ = bigSep (run32 1) fun j => Φ (peer c j) := by
  have h : (Finset.univ.erase c : Finset (Dev nD)) = (run32 1).map (places c).toEmbedding := by
    ext p
    rw [Finset.mem_erase, Finset.mem_map_equiv, Ring.mem_rangeSet]
    show _ ↔ 1 ≤ (back c p).val ∧ (back c p).val < 32
    refine ⟨fun h => ⟨Nat.one_le_iff_ne_zero.mpr fun e => h.1 ?_, (back c p).isLt⟩, fun h => ⟨fun e => ?_, Finset.mem_univ _⟩⟩
    · rw [← peer_back c p, show back c p = 0 from Fin.ext e, peer_zero]
    · subst e
      have h0 : back p p = 0 := by rw [← peer_zero p]; conv_lhs => rw [show back (peer p 0) (peer p 0) = back p (peer p 0) by rw [peer_zero]]
                                   exact back_peer p 0
      rw [h0] at h; exact absurd h.1 (by decide)
  rw [h, bigSep_map]; rfl

/-! ## What a device starts from and what it leaves -/

/-- The protocol's ghost state device `c` starts from: the records, its positions at its own cells, the tokens of the
    duties it pays. -/
def ghost (K : Dev nD × Kd → ℕ) (c : Dev nD) : sProp 𝕄 :=
  iprop(records m ρ K
    ∗ atPos ER (barCell c) 0 ∅ 0
    ∗ (bigSep Finset.univ fun j : Fin 32 => atPos ER (sendCell c j) 0 ∅ 0)
    ∗ (bigSep Finset.univ fun j : Fin 32 => atPos ER (recvCell c j) 0 ∅ 0)
    ∗ (bigSep (run32 1) fun j => dutyTok ER (barCell (peer c j)) 0 c)
    ∗ (bigSep (run32 1) fun j => dutyTok ER (sendCell c j) 0 (0 : Dev nD))
    ∗ bigSep (run32 1) fun j => dutyTok ER (recvCell (peer c j) j) 0 (0 : Dev nD))

/-- The credit tokens the launch deals device `c`: its barrier's 31 units, its 31 landings. -/
def creds (c : Dev nD) : sProp 𝕄 :=
  iprop(cred (tallyAt (barCell c) () 31) ∗ bigSep (run32 1) fun j => cred (tallyAt (recvCell c j) () N))

def scr (c : Dev nD) : sProp 𝕄 := iprop(∃ f : Buf (Elt F) ((c : Thread nD τ).loc cc0_scratch0), ((c : Thread nD τ).loc cc0_scratch0) ↦{fullShare} f)

def start (c : Dev nD) : sProp 𝕄 := iprop((∃ K, ghost m ρ K c) ∗ creds c ∗ levAts L lv)
def Φ₀ (c : Dev nD) : sProp 𝕄 := iprop(start m ρ c ∗ scr c)
/-- After the body: the gather buffer at some contents and every cell's counter at zero, closed. -/
def Φ₁ (c : Dev nD) : sProp 𝕄 :=
  iprop(scr (F := F) c ∗ (bigSep Finset.univ fun j : Fin 32 => semVal (sendCell c j) 0) ∗ (bigSep Finset.univ fun j : Fin 32 => semVal (recvCell c j) 0)
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m ρ c
    | ⟨1, _⟩ => iV m ρ c
    | ⟨2, _⟩ => wV m ρ c
    | ⟨3, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## What the loads and stores read and write -/

theorem hz2 : (![0, 0] : Fin 2 → Nat) = fun _ => 0 := funext fun a => by fin_cases a <;> rfl

omit [FloatOps F] in
theorem read_x (f : (cc0_stg0_0 : Ref sig .tc).ty.Contents (Elt F)) :
    (xM : Memref sig .tc .vmem S1024x256 .bf16).view.readAt (Elt F) (Rect.unit (s := S1024x256) ![0, 0] S1024x256.size inb_S1024x256_S1024x256_0_0).toLoadRect f = f :=
  Memref.readAt_unit_zero (Elt F) cc0_stg0_0 hz2 _ f
omit [FloatOps F] in
theorem read_i (f : (cc0_stg1_0 : Ref sig .tc).ty.Contents (Elt F)) :
    (iM : Memref sig .tc .vmem S1024x1 .i32).view.readAt (Elt F) (Rect.unit (s := S1024x1) ![0, 0] S1024x1.size inb_S1024x1_S1024x1_0_0).toLoadRect f = f :=
  Memref.readAt_unit_zero (Elt F) cc0_stg1_0 hz2 _ f
omit [FloatOps F] in
theorem read_g (f : (cc0_scratch0 : Ref sig .tc).ty.Contents (Elt F)) :
    (gM : Memref sig .tc .vmem S768x512 .bf16).view.readAt (Elt F) (Rect.unit (s := S768x512) ![0, 0] S768x512.size inb_S768x512_S768x512_0_0).toLoadRect f = f :=
  Memref.readAt_unit_zero (Elt F) cc0_scratch0 hz2 _ f
omit [FloatOps F] in
theorem write_out (f w : (cc0_stg3_0 : Ref sig .tc).ty.Contents (Elt F)) :
    ((oM : Memref sig .tc .vmem S1024x512 .f32).access (Rect.unit (s := S1024x512) ![0, 0] S1024x512.size inb_S1024x512_S1024x512_0_0) : View sig .tc _ _ _).write (Elt F) f w Finset.univ = w :=
  Memref.write_access_unit_zero_univ (Elt F) cc0_stg3_0 hz2 _ f w

/-- The rows a device stores are at the same place as the rows it sends. -/
abbrev ownRect (c : Dev nD) : Rect S768x512 := Rect.unit (s := S768x512) (k0_off1 c) S24x512.size (k0_off1_inb c)
theorem own_rect (c : Dev nD) : ownRect c = Rect.unit (s := S768x512) (k0_off2 c) S24x512.size (k0_off2_inb c) := by
  have h : k0_off1 c = k0_off2 c := (k0_off1_eq c).trans (k0_off2_eq c).symm
  simp only [ownRect, h]
theorem own_load_sub (c : Dev nD) : (gM : Memref sig .tc .vmem S768x512 .bf16).view.setOn (ownRect c).toLoadRect.set ⊆ (gS c).view.set := by
  show (gM : Memref sig .tc .vmem S768x512 .bf16).view.setOn (ownRect c).set ⊆ _
  rw [own_rect]
  show _ ⊆ ((View.whole cc0_scratch0).slice (Rect.unit (s := S768x512) (k0_off2 c) S24x512.size (k0_off2_inb c))).set
  rw [View.set_slice]; exact subset_rfl
theorem own_store_sub (c : Dev nD) : ((gM : Memref sig .tc .vmem S768x512 .bf16).access (ownRect c)).setOn Finset.univ ⊆ (gS c).view.set := by
  rw [own_rect]; exact subset_rfl

/-- What the device's own store leaves: its rows as the filled buffer has them. -/
theorem own_stored (c : Dev nD) (f : (cc0_scratch0 : Ref sig .tc).ty.Contents (Elt F)) (y : FVec F S24x512 .bf16) (hy : y = yV m ρ c) :
    ((((gM : Memref sig .tc .vmem S768x512 .bf16).access (ownRect c)).loc (c : Thread nD τ))
        ↦[(gS c).view.set]{fullShare} (((gM : Memref sig .tc .vmem S768x512 .bf16).access (ownRect c)).write (Elt F) f y Finset.univ) : sProp 𝕄)
      ⊢ rowPts c c fullShare (gathAll m ρ) := by
  subst hy
  refine Entails.of_eq ?_
  unfold rowPts
  refine pointsTo_congr fun i hi => ?_
  obtain ⟨x, -, rfl⟩ := Finset.mem_map.mp hi
  refine Eq.trans ?_ (gathAll_emb m ρ c x).symm
  have key : ∀ (o : Fin 2 → Nat) (ho : ∀ a, o a + S24x512.size a ≤ S768x512.size a) (e : o = k0_off2 c),
      ((gM : Memref sig .tc .vmem S768x512 .bf16).access (Rect.unit (s := S768x512) o S24x512.size ho)).write (Elt F) f (yV m ρ c) Finset.univ ((gS c).view.emb x)
        = yV m ρ c x := by
    rintro o ho rfl
    exact View.write_emb_of_mem (v := (gS c).view) f (yV m ρ c) (Finset.mem_univ x)
  exact key _ (k0_off1_inb c) ((k0_off1_eq c).trans (k0_off2_eq c).symm)

theorem cut {A B : sProp 𝕄} (h : A ⊢ B) : A ⊢ B := h

/-! ## Before and after the body -/

def bodyPre (K : Dev nD × Kd → ℕ) (c : Dev nD) : sProp 𝕄 :=
  iprop((ghost m ρ K c ∗ creds c ∗ levAts L lv ∗ scr c)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ (F := F) c ∗ (dats m ρ 0 c).owesAt () t0_0.succ ∗ stg c cc0_stg0_0 (xV m ρ c) ∗ stg c cc0_stg1_0 (iV m ρ c)
    ∗ stg c cc0_stg2_0 (wV m ρ c) ∗ stg c cc0_stg3_0 (outV m ρ c))

/-- A device's 64 transfer cells close: their counters at zero are the core's again. -/
theorem close_cells (K : Dev nD × Kd → ℕ) (c : Dev nD) (b : Bool) (R : ℕ) (S : Finset (Fin 32))
    (hR : ∀ j ∈ S, ∀ r, R ≤ r → (Rd (F := F) m ρ).duties (kcell (c, .inr (b, j))) r = ∅) :
    iprop(records m ρ K ∗ bigSep S fun j : Fin 32 => atPos ER (kcell (c, .inr (b, j))) R ∅ 0)
      ⊢ |={Set.univ}=> bigSep S fun j : Fin 32 => semVal (kcell (c, .inr (b, j))) 0 := by
  refine (sep_mono_left (BI.bigSep_of_persistent S (records m ρ K))).trans ?_
  rw [← bigSep_sep']
  refine (bigSep_mono fun j hj => ?_).trans (bigSep_fupd _ _)
  exact (sep_mono_left (inv_at m ρ K (c, .inr (b, j)))).trans
    (Rounds.cell_close ER (Rd m ρ) (Set.mem_univ (K (c, .inr (b, j)))) (fun h => h) (R := R) (hR j hj))

theorem mem_run {j : Fin 32} (h : j ∈ run32 1) : j ≠ 0 := fun e => by
  rw [Ring.mem_rangeSet] at h; subst e; exact absurd h.1 (by decide)

/-! ## Between the runs -/

/-- After the last signal no barrier unit is owed. -/
theorem sig_end (c : Dev nD) : (sigSt c ((31 : Fin 32).val + 1) : sProp 𝕄) ⊢ owesE c (Orecv c 1) := by
  unfold sigSt
  rw [show (31 : Fin 32).val + 1 = 32 from rfl, Obar_end, add_zero]
  iintro ⟨H, -⟩; iexact H

theorem rows_some (c : Dev nD) (f : (cc0_scratch0 : Ref sig .tc).ty.Contents (Elt F)) :
    (bigSep (run32 1) fun j => rowPts c (peer c j) fullShare f : sProp 𝕄)
      ⊢ bigSep (run32 1) fun j => iprop(∃ f, rowPts c (peer c j) fullShare f) :=
  bigSep_mono fun j _ => show (rowPts c (peer c j) fullShare f : sProp 𝕄) ⊢ iprop(∃ f, rowPts c (peer c j) fullShare f) by
    iintro H; iexists f; iexact H

theorem send_start (c : Dev nD) :
    iprop((∃ W, owes (c : Thread nD τ) (Orecv c 1) W)
      ∗ (bigSep (run32 1) fun j => iprop(∃ f, rowPts (peer c j) c fullShare f))
      ∗ (bigSep (run32 1) fun j => rowPts c c (sh j) (gathAll m ρ))
      ∗ (bigSep (run32 1) fun j => dutyTok ER (sendCell c j) 0 (0 : Dev nD))
      ∗ bigSep (run32 1) fun j => dutyTok ER (recvCell (peer c j) j) 0 (0 : Dev nD))
      ⊢ sendSt m ρ c ((1 : Fin 32).val) := by
  unfold sendSt owesE sendItem
  rw [bigSep_sep', bigSep_sep', bigSep_sep', show (1 : Fin 32).val = 1 from rfl, Ring.bigSep_rangeSet_empty le_rfl]
  iintro ⟨H1, H2, H3, H4, H5⟩
  isplitl [H1]; · iexact H1
  isplitl [H2 H3 H4 H5]
  · isplitl [H2]; · iexact H2
    isplitl [H3]; · iexact H3
    isplitl [H4] <;> iassumption
  iempintro

theorem send_end (c : Dev nD) : sendSt m ρ c ((31 : Fin 32).val + 1)
    ⊢ iprop(owesE c 0 ∗ bigSep (run32 1) fun j => cred (tallyAt (sendCell c j) () N)) := by
  unfold sendSt
  rw [show (31 : Fin 32).val + 1 = 32 from rfl, Orecv_end]
  iintro ⟨H, -, H'⟩
  isplitl [H] <;> iassumption

theorem recv_start (c : Dev nD) :
    iprop(owesE c 0 ∗ (bigSep (run32 1) fun j => cred (tallyAt (recvCell c j) () N)) ∗ bigSep (run32 1) fun j => atPos ER (recvCell c j) 0 ∅ 0)
      ⊢ recvSt m ρ c ((1 : Fin 32).val) := by
  unfold recvSt recvItem
  rw [bigSep_sep', show (1 : Fin 32).val = 1 from rfl, Ring.bigSep_rangeSet_empty le_rfl]
  iintro ⟨H1, H2, H3⟩
  isplitl [H1]; · iexact H1
  isplitl [H2 H3]; · isplitl [H2] <;> iassumption
  iempintro

theorem recv_end (c : Dev nD) : recvSt m ρ c ((31 : Fin 32).val + 1)
    ⊢ iprop(owesE c 0 ∗ (bigSep (run32 1) fun j => atPos ER (recvCell c j) 1 ∅ 0) ∗ bigSep (run32 1) fun j => rowPts c (src c j) fullShare (gathAll m ρ)) := by
  unfold recvSt recvDone
  rw [show (31 : Fin 32).val + 1 = 32 from rfl, bigSep_sep']
  iintro ⟨H, -, H1, H2⟩
  isplitl [H]; · iexact H
  isplitl [H1] <;> iassumption

theorem left_start (c : Dev nD) :
    iprop(owesE c 0 ∗ (bigSep (run32 1) fun j => cred (tallyAt (sendCell c j) () N)) ∗ bigSep (run32 1) fun j => atPos ER (sendCell c j) 0 ∅ 0)
      ⊢ leftSt m ρ c ((1 : Fin 32).val) := by
  unfold leftSt leftItem
  rw [bigSep_sep', show (1 : Fin 32).val = 1 from rfl, Ring.bigSep_rangeSet_empty le_rfl]
  iintro ⟨H1, H2, H3⟩
  isplitl [H1]; · iexact H1
  isplitl [H2 H3]; · isplitl [H2] <;> iassumption
  iempintro

theorem left_end (c : Dev nD) : leftSt m ρ c ((31 : Fin 32).val + 1)
    ⊢ iprop(owesE c 0 ∗ (bigSep (run32 1) fun j => atPos ER (sendCell c j) 1 ∅ 0) ∗ bigSep (run32 1) fun j => rowPts c c (sh j) (gathAll m ρ)) := by
  unfold leftSt leftDone
  rw [show (31 : Fin 32).val + 1 = 32 from rfl, bigSep_sep']
  iintro ⟨H, -, H1, H2⟩
  isplitl [H]; · iexact H
  isplitl [H1] <;> iassumption

/-- All of a device's cells close. -/
theorem close_all (K : Dev nD × Kd → ℕ) (c : Dev nD) :
    iprop(records m ρ K ∗ atPos ER (barCell c) 1 ∅ 0
      ∗ atPos ER (sendCell c 0) 0 ∅ 0 ∗ (bigSep (run32 1) fun j => atPos ER (sendCell c j) 1 ∅ 0)
      ∗ atPos ER (recvCell c 0) 0 ∅ 0 ∗ (bigSep (run32 1) fun j => atPos ER (recvCell c j) 1 ∅ 0))
      ⊢ |={Set.univ}=> iprop((bigSep Finset.univ fun j : Fin 32 => semVal (sendCell c j) 0)
          ∗ (bigSep Finset.univ fun j : Fin 32 => semVal (recvCell c j) 0) ∗ semVal (barCell c) 0 : sProp 𝕄) := by
  rw [univ32, univ32]
  iintro ⟨#HK, HB, HS0, HS, HV0, HV⟩
  imod (Rounds.cell_close ER (Rd m ρ) (Set.mem_univ (K (c, .inl ()))) (fun h => h) (R := 1) (duties_later m ρ (barCell c))) $$ [HB] with HzB
  · isplitr; · iapply (inv_at m ρ K (c, .inl ())); iexact HK
    iexact HB
  imod (Rounds.cell_close ER (Rd m ρ) (Set.mem_univ (K (c, .inr (false, 0)))) (fun h => h) (R := 0) (fun r _ => duties_zero m ρ c false r)) $$ [HS0] with HzS0
  · isplitr; · iapply (inv_at m ρ K (c, .inr (false, 0))); iexact HK
    iexact HS0
  imod (Rounds.cell_close ER (Rd m ρ) (Set.mem_univ (K (c, .inr (true, 0)))) (fun h => h) (R := 0) (fun r _ => duties_zero m ρ c true r)) $$ [HV0] with HzV0
  · isplitr; · iapply (inv_at m ρ K (c, .inr (true, 0))); iexact HK
    iexact HV0
  imod (close_cells m ρ K c false 1 (run32 1) (fun j _ => duties_later m ρ _)) $$ [HS] with HzS
  · isplitr; · iexact HK
    iexact HS
  imod (close_cells m ρ K c true 1 (run32 1) (fun j _ => duties_later m ρ _)) $$ [HV] with HzV
  · isplitr; · iexact HK
    iexact HV
  imodintro
  isplitl [HzS0 HzS]
  · isplitl [HzS0]; · iexact HzS0
    iexact HzS
  isplitl [HzV0 HzV]
  · isplitl [HzV0]; · iexact HzV0
    iexact HzV
  iexact HzB

end Cert.KernelIdealRun

end
-- ==== Proof.KernelIdealRun.Body.lean ====
/-
# The body on one device

The kernel's body from what the launch gives a device to what it leaves, one rule for each operation in program order.
-/
module

public import proofs.«01_k».proof.Proof.KernelIdealRun.Rows

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf pointsTo_leaves)
open Idealize.ShloMosaic.Ring (rangeSet bigSep_rangeSet_head bigSep_rangeSet_last)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
set_option maxRecDepth 65536 in
/-- The body, executed from `bodyPre`, one rule per operation in program order, to `bodyPost`. -/
theorem sound_body (K : Dev nD × Kd → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  rw [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel
  simp only [semSignalWord, semWaitWord, Prog.lift, Prog.bind_op, Prog.bind_ret, Prog.pure_eq_ret, wp_deviceId]
  unfold bodyPre ghost creds scr
  iintro ⟨⟨⟨⟨#HK, HatB, HatS, HatV, HtB, HtS, HtV⟩, ⟨HcB, HcV⟩, #Hlev, ⟨%f0, Hscr⟩⟩,
    Ho, ⟨%d0, %g0, %hg0, Hx⟩, ⟨%d1, %g1, %hg1, Hi⟩, ⟨%d2, %g2, %hg2, Hw⟩, ⟨%d3, %g3, %hg3, Hout⟩⟩, Hk⟩
  have hx : g0 = xV m ρ c := by rw [hg0]; unfold Dat.before; rw [if_pos (fetch_0 t0_0)]; rfl
  have hi : g1 = iV m ρ c := by rw [hg1]; unfold Dat.before; rw [if_pos (fetch_1 t0_0)]; rfl
  have hw : g2 = wV m ρ c := by rw [hg2]; unfold Dat.before; rw [if_pos (fetch_2 t0_0)]; rfl
  subst hx hi hw
  unfold Dat.owesAt Pipeline.owesWithin
  icases Ho with ⟨%W, %hW, HO⟩
  rw [show (dats m ρ 0 c).owed t0_0.castSucc = O₀ c from rfl]
  -- the gather buffer by rows, every other device's rows for its signal
  ihave Hscr := (Entails.of_eq (whole_peers c fullShare f0)) $$ Hscr
  icases Hscr with ⟨Hown, Hrows⟩
  iapply (cut (A := iprop(records m ρ K ∗ sigSt c 1 ∗ (rowPts c c fullShare f0
      ∗ atPos ER (barCell c) 0 ∅ 0 ∗ (bigSep Finset.univ fun j : Fin 32 => atPos ER (sendCell c j) 0 ∅ 0)
      ∗ (bigSep Finset.univ fun j : Fin 32 => atPos ER (recvCell c j) 0 ∅ 0)
      ∗ (bigSep (run32 1) fun j => dutyTok ER (sendCell c j) 0 (0 : Dev nD))
      ∗ (bigSep (run32 1) fun j => dutyTok ER (recvCell (peer c j) j) 0 (0 : Dev nD))
      ∗ cred (tallyAt (barCell c) () 31) ∗ (bigSep (run32 1) fun j => cred (tallyAt (recvCell c j) () N)) ∗ levAts L lv
      ∗ (((c : Thread nD τ).loc cc0_stg0_0) ↦{fullShare} xV m ρ c) ∗ (((c : Thread nD τ).loc cc0_stg1_0) ↦{fullShare} iV m ρ c)
      ∗ (((c : Thread nD τ).loc cc0_stg2_0) ↦{fullShare} wV m ρ c) ∗ (((c : Thread nD τ).loc cc0_stg3_0) ↦{fullShare} g3)
      ∗ (bodyPost m ρ c -∗ Kt ⟨⟩)))) ?_) $$ [HatB HatS HatV HtB HtS HtV HcB HcV Hown Hrows HO Hx Hi Hw Hout Hk]
  rotate_left
  · isplitr; · iexact HK
    isplitl [HO HtB Hrows]
    · unfold sigSt owesE sigItem
      isplitl [HO]; · iexists W; iexact HO
      rw [bigSep_sep']
      isplitl [HtB]; · iexact HtB
      iapply (rows_some c f0); iexact Hrows
    isplitl [Hown]; · iexact Hown
    isplitl [HatB]; · iexact HatB
    isplitl [HatS]; · iexact HatS
    isplitl [HatV]; · iexact HatV
    isplitl [HtS]; · iexact HtS
    isplitl [HtV]; · iexact HtV
    isplitl [HcB]; · iexact HcB
    isplitl [HcV]; · iexact HcV
    isplitr; · iexact Hlev
    isplitl [Hx]; · iexact Hx
    isplitl [Hi]; · iexact Hi
    isplitl [Hw]; · iexact Hw
    isplitl [Hout]; · iexact Hout
    iexact Hk
  -- the 31 signals
  refine wp_sig m ρ K c 1 (by decide) (Fin.ext (k0_dev1_eq c)) rfl rfl ?_
  refine wp_sig m ρ K c 2 (by decide) (Fin.ext (k0_dev2_eq c)) rfl rfl ?_
  refine wp_sig m ρ K c 3 (by decide) (Fin.ext (k0_dev3_eq c)) rfl rfl ?_
  refine wp_sig m ρ K c 4 (by decide) (Fin.ext (k0_dev4_eq c)) rfl rfl ?_
  refine wp_sig m ρ K c 5 (by decide) (Fin.ext (k0_dev5_eq c)) rfl rfl ?_
  refine wp_sig m ρ K c 6 (by decide) (Fin.ext (k0_dev6_eq c)) rfl rfl ?_
  refine wp_sig m ρ K c 7 (by decide) (Fin.ext (k0_dev7_eq c)) rfl rfl ?_
  refine wp_sig m ρ K c 8 (by decide) (Fin.ext (k0_dev8_eq c)) rfl rfl ?_
  refine wp_sig m ρ K c 9 (by decide) (Fin.ext (k0_dev9_eq c)) rfl rfl ?_
  refine wp_sig m ρ K c 10 (by decide) (Fin.ext (k0_dev10_eq c)) rfl rfl ?_
  refine wp_sig m ρ K c 11 (by decide) (Fin.ext (k0_dev11_eq c)) rfl rfl ?_
  refine wp_sig m ρ K c 12 (by decide) (Fin.ext (k0_dev12_eq c)) rfl rfl ?_
  refine wp_sig m ρ K c 13 (by decide) (Fin.ext (k0_dev13_eq c)) rfl rfl ?_
  refine wp_sig m ρ K c 14 (by decide) (Fin.ext (k0_dev14_eq c)) rfl rfl ?_
  refine wp_sig m ρ K c 15 (by decide) (Fin.ext (k0_dev15_eq c)) rfl rfl ?_
  refine wp_sig m ρ K c 16 (by decide) (Fin.ext (k0_dev16_eq c)) rfl rfl ?_
  refine wp_sig m ρ K c 17 (by decide) (Fin.ext (k0_dev17_eq c)) rfl rfl ?_
  refine wp_sig m ρ K c 18 (by decide) (Fin.ext (k0_dev18_eq c)) rfl rfl ?_
  refine wp_sig m ρ K c 19 (by decide) (Fin.ext (k0_dev19_eq c)) rfl rfl ?_
  refine wp_sig m ρ K c 20 (by decide) (Fin.ext (k0_dev20_eq c)) rfl rfl ?_
  refine wp_sig m ρ K c 21 (by decide) (Fin.ext (k0_dev21_eq c)) rfl rfl ?_
  refine wp_sig m ρ K c 22 (by decide) (Fin.ext (k0_dev22_eq c)) rfl rfl ?_
  refine wp_sig m ρ K c 23 (by decide) (Fin.ext (k0_dev23_eq c)) rfl rfl ?_
  refine wp_sig m ρ K c 24 (by decide) (Fin.ext (k0_dev24_eq c)) rfl rfl ?_
  refine wp_sig m ρ K c 25 (by decide) (Fin.ext (k0_dev25_eq c)) rfl rfl ?_
  refine wp_sig m ρ K c 26 (by decide) (Fin.ext (k0_dev26_eq c)) rfl rfl ?_
  refine wp_sig m ρ K c 27 (by decide) (Fin.ext (k0_dev27_eq c)) rfl rfl ?_
  refine wp_sig m ρ K c 28 (by decide) (Fin.ext (k0_dev28_eq c)) rfl rfl ?_
  refine wp_sig m ρ K c 29 (by decide) (Fin.ext (k0_dev29_eq c)) rfl rfl ?_
  refine wp_sig m ρ K c 30 (by decide) (Fin.ext (k0_dev30_eq c)) rfl rfl ?_
  refine wp_sig m ρ K c 31 (by decide) (Fin.ext (k0_dev31_eq c)) rfl rfl ?_
  iintro ⟨#HK, Hs, Hown, HatB, HatS, HatV, HtS, HtV, HcB, HcV, #Hlev, Hx, Hi, Hw, Hout, Hk⟩
  ihave Hs' := (sig_end (F := F) c) $$ Hs
  unfold owesE
  icases Hs' with ⟨%W, HO⟩
  -- the inputs
  iapply (wp_load 𝒱₀ (c : Thread nD τ) none Set.univ (m := iM) (Finset.subset_univ _)) $$ Hi; iintro Hi
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  rw [read_i, read_x]
  -- its own rows
  unfold rowPts
  iapply (wp_load 𝒱₀ (c : Thread nD τ) none Set.univ (m := gM) (r := (ownRect c).toLoadRect) (own_load_sub c)) $$ Hown; iintro Hown
  iapply (wp_store 𝒱₀ (c : Thread nD τ) none Set.univ (m := gM) (r := ownRect c) (Mk := Finset.univ) (own_store_sub c)) $$ Hown; iintro Hown
  ihave Hown := (own_stored m ρ c f0 _ ?_) $$ Hown
  · rfl
  -- the wait for the 31 signals
  iapply (Rounds.wp_wait_rest_token 𝒱₀ ER (Rd m ρ) (c : Thread nD τ) none (κ := K (c, .inl ()))
      (wpE_semWait_eq 𝒱₀ (c : Thread nD τ) none Set.univ) (Set.mem_univ _) () (O := Orecv c 1) (W := W) (R := 0) (m := 0) (T := ∅)
      (by rw [expect_bar]; rfl)) $$ [HcB HO HatB]
  · isplitr; · iapply (inv_at m ρ K (c, .inl ())); iexact HK
    isplitl [HcB]; · iexact HcB
    isplitl [HO]; · iexact HO
    isplitr; · iapply (mayWait_bar c); iexact Hlev
    iexact HatB
  iintro ⟨HO, HatB, -, Hpay⟩
  ihave Hpeers := (Entails.of_eq ((rest_bar m ρ c).trans (others c _))) $$ Hpay
  ihave Hl := (Entails.of_eq (row_leaves c c (gathAll m ρ))) $$ Hown
  icases Hl with ⟨Hown, Hleaves⟩
  iapply (cut (A := iprop(records m ρ K ∗ sendSt m ρ c 1 ∗ (rowPts c c (sh 0) (gathAll m ρ)
      ∗ atPos ER (barCell c) 1 ∅ 0 ∗ (bigSep Finset.univ fun j : Fin 32 => atPos ER (sendCell c j) 0 ∅ 0)
      ∗ (bigSep Finset.univ fun j : Fin 32 => atPos ER (recvCell c j) 0 ∅ 0)
      ∗ (bigSep (run32 1) fun j => cred (tallyAt (recvCell c j) () N))
      ∗ (((c : Thread nD τ).loc cc0_stg0_0) ↦{fullShare} xV m ρ c) ∗ (((c : Thread nD τ).loc cc0_stg1_0) ↦{fullShare} iV m ρ c)
      ∗ (((c : Thread nD τ).loc cc0_stg2_0) ↦{fullShare} wV m ρ c) ∗ (((c : Thread nD τ).loc cc0_stg3_0) ↦{fullShare} g3)
      ∗ (bodyPost m ρ c -∗ Kt ⟨⟩)))) ?_) $$ [HatB HatS HatV HtS HtV HcV Hown Hleaves Hpeers HO Hx Hi Hw Hout Hk]
  rotate_left
  · isplitr; · iexact HK
    isplitl [HO HtS HtV Hleaves Hpeers]
    · iapply (send_start m ρ c)
      isplitl [HO]; · iexists (insert (SemLoc.reg barS, ()) W); iexact HO
      isplitl [Hpeers]; · iexact Hpeers
      isplitl [Hleaves]; · iexact Hleaves
      isplitl [HtS] <;> iassumption
    isplitl [Hown]; · iexact Hown
    isplitl [HatB]; · iexact HatB
    isplitl [HatS]; · iexact HatS
    isplitl [HatV]; · iexact HatV
    isplitl [HcV]; · iexact HcV
    isplitl [Hx]; · iexact Hx
    isplitl [Hi]; · iexact Hi
    isplitl [Hw]; · iexact Hw
    isplitl [Hout]; · iexact Hout
    iexact Hk
  -- the 31 copies
  refine wp_copy m ρ K c 1 (by decide) (Fin.ext (k0_dev32_eq c)) rfl rfl ?_
  refine wp_copy m ρ K c 2 (by decide) (Fin.ext (k0_dev33_eq c)) rfl rfl ?_
  refine wp_copy m ρ K c 3 (by decide) (Fin.ext (k0_dev34_eq c)) rfl rfl ?_
  refine wp_copy m ρ K c 4 (by decide) (Fin.ext (k0_dev35_eq c)) rfl rfl ?_
  refine wp_copy m ρ K c 5 (by decide) (Fin.ext (k0_dev36_eq c)) rfl rfl ?_
  refine wp_copy m ρ K c 6 (by decide) (Fin.ext (k0_dev37_eq c)) rfl rfl ?_
  refine wp_copy m ρ K c 7 (by decide) (Fin.ext (k0_dev38_eq c)) rfl rfl ?_
  refine wp_copy m ρ K c 8 (by decide) (Fin.ext (k0_dev39_eq c)) rfl rfl ?_
  refine wp_copy m ρ K c 9 (by decide) (Fin.ext (k0_dev40_eq c)) rfl rfl ?_
  refine wp_copy m ρ K c 10 (by decide) (Fin.ext (k0_dev41_eq c)) rfl rfl ?_
  refine wp_copy m ρ K c 11 (by decide) (Fin.ext (k0_dev42_eq c)) rfl rfl ?_
  refine wp_copy m ρ K c 12 (by decide) (Fin.ext (k0_dev43_eq c)) rfl rfl ?_
  refine wp_copy m ρ K c 13 (by decide) (Fin.ext (k0_dev44_eq c)) rfl rfl ?_
  refine wp_copy m ρ K c 14 (by decide) (Fin.ext (k0_dev45_eq c)) rfl rfl ?_
  refine wp_copy m ρ K c 15 (by decide) (Fin.ext (k0_dev46_eq c)) rfl rfl ?_
  refine wp_copy m ρ K c 16 (by decide) (Fin.ext (k0_dev47_eq c)) rfl rfl ?_
  refine wp_copy m ρ K c 17 (by decide) (Fin.ext (k0_dev48_eq c)) rfl rfl ?_
  refine wp_copy m ρ K c 18 (by decide) (Fin.ext (k0_dev49_eq c)) rfl rfl ?_
  refine wp_copy m ρ K c 19 (by decide) (Fin.ext (k0_dev50_eq c)) rfl rfl ?_
  refine wp_copy m ρ K c 20 (by decide) (Fin.ext (k0_dev51_eq c)) rfl rfl ?_
  refine wp_copy m ρ K c 21 (by decide) (Fin.ext (k0_dev52_eq c)) rfl rfl ?_
  refine wp_copy m ρ K c 22 (by decide) (Fin.ext (k0_dev53_eq c)) rfl rfl ?_
  refine wp_copy m ρ K c 23 (by decide) (Fin.ext (k0_dev54_eq c)) rfl rfl ?_
  refine wp_copy m ρ K c 24 (by decide) (Fin.ext (k0_dev55_eq c)) rfl rfl ?_
  refine wp_copy m ρ K c 25 (by decide) (Fin.ext (k0_dev56_eq c)) rfl rfl ?_
  refine wp_copy m ρ K c 26 (by decide) (Fin.ext (k0_dev57_eq c)) rfl rfl ?_
  refine wp_copy m ρ K c 27 (by decide) (Fin.ext (k0_dev58_eq c)) rfl rfl ?_
  refine wp_copy m ρ K c 28 (by decide) (Fin.ext (k0_dev59_eq c)) rfl rfl ?_
  refine wp_copy m ρ K c 29 (by decide) (Fin.ext (k0_dev60_eq c)) rfl rfl ?_
  refine wp_copy m ρ K c 30 (by decide) (Fin.ext (k0_dev61_eq c)) rfl rfl ?_
  refine wp_copy m ρ K c 31 (by decide) (Fin.ext (k0_dev62_eq c)) rfl rfl ?_
  iintro ⟨#HK, Hs, Hown, HatB, HatS, HatV, HcV, Hx, Hi, Hw, Hout, Hk⟩
  ihave Hs' := (send_end m ρ c) $$ Hs
  icases Hs' with ⟨HO, HcS⟩
  ihave HatV := (Entails.of_eq (univ32 (fun j : Fin 32 => (atPos ER (recvCell c j) 0 ∅ 0 : sProp 𝕄)))) $$ HatV
  icases HatV with ⟨HatV0, HatV⟩
  iapply (cut (A := iprop(records m ρ K ∗ recvSt m ρ c 1 ∗ (rowPts c c (sh 0) (gathAll m ρ)
      ∗ atPos ER (barCell c) 1 ∅ 0 ∗ (bigSep Finset.univ fun j : Fin 32 => atPos ER (sendCell c j) 0 ∅ 0)
      ∗ atPos ER (recvCell c 0) 0 ∅ 0 ∗ (bigSep (run32 1) fun j => cred (tallyAt (sendCell c j) () N))
      ∗ (((c : Thread nD τ).loc cc0_stg0_0) ↦{fullShare} xV m ρ c) ∗ (((c : Thread nD τ).loc cc0_stg1_0) ↦{fullShare} iV m ρ c)
      ∗ (((c : Thread nD τ).loc cc0_stg2_0) ↦{fullShare} wV m ρ c) ∗ (((c : Thread nD τ).loc cc0_stg3_0) ↦{fullShare} g3)
      ∗ (bodyPost m ρ c -∗ Kt ⟨⟩)))) ?_) $$ [HatB HatS HatV HatV0 HcV HcS Hown HO Hx Hi Hw Hout Hk]
  rotate_left
  · isplitr; · iexact HK
    isplitl [HO HcV HatV]
    · iapply (recv_start m ρ c)
      isplitl [HO]; · iexact HO
      isplitl [HcV] <;> iassumption
    isplitl [Hown]; · iexact Hown
    isplitl [HatB]; · iexact HatB
    isplitl [HatS]; · iexact HatS
    isplitl [HatV0]; · iexact HatV0
    isplitl [HcS]; · iexact HcS
    isplitl [Hx]; · iexact Hx
    isplitl [Hi]; · iexact Hi
    isplitl [Hw]; · iexact Hw
    isplitl [Hout]; · iexact Hout
    iexact Hk
  -- the 31 landings
  refine wp_land m ρ K c 1 (by decide) rfl ?_
  refine wp_land m ρ K c 2 (by decide) rfl ?_
  refine wp_land m ρ K c 3 (by decide) rfl ?_
  refine wp_land m ρ K c 4 (by decide) rfl ?_
  refine wp_land m ρ K c 5 (by decide) rfl ?_
  refine wp_land m ρ K c 6 (by decide) rfl ?_
  refine wp_land m ρ K c 7 (by decide) rfl ?_
  refine wp_land m ρ K c 8 (by decide) rfl ?_
  refine wp_land m ρ K c 9 (by decide) rfl ?_
  refine wp_land m ρ K c 10 (by decide) rfl ?_
  refine wp_land m ρ K c 11 (by decide) rfl ?_
  refine wp_land m ρ K c 12 (by decide) rfl ?_
  refine wp_land m ρ K c 13 (by decide) rfl ?_
  refine wp_land m ρ K c 14 (by decide) rfl ?_
  refine wp_land m ρ K c 15 (by decide) rfl ?_
  refine wp_land m ρ K c 16 (by decide) rfl ?_
  refine wp_land m ρ K c 17 (by decide) rfl ?_
  refine wp_land m ρ K c 18 (by decide) rfl ?_
  refine wp_land m ρ K c 19 (by decide) rfl ?_
  refine wp_land m ρ K c 20 (by decide) rfl ?_
  refine wp_land m ρ K c 21 (by decide) rfl ?_
  refine wp_land m ρ K c 22 (by decide) rfl ?_
  refine wp_land m ρ K c 23 (by decide) rfl ?_
  refine wp_land m ρ K c 24 (by decide) rfl ?_
  refine wp_land m ρ K c 25 (by decide) rfl ?_
  refine wp_land m ρ K c 26 (by decide) rfl ?_
  refine wp_land m ρ K c 27 (by decide) rfl ?_
  refine wp_land m ρ K c 28 (by decide) rfl ?_
  refine wp_land m ρ K c 29 (by decide) rfl ?_
  refine wp_land m ρ K c 30 (by decide) rfl ?_
  refine wp_land m ρ K c 31 (by decide) rfl ?_
  iintro ⟨#HK, Hs, Hown, HatB, HatS, HatV0, HcS, Hx, Hi, Hw, Hout, Hk⟩
  ihave Hs' := (recv_end m ρ c) $$ Hs
  icases Hs' with ⟨HO, HatV, Hrows⟩
  -- the whole buffer, read through the part of every device's rows still held
  ihave Hg := (Entails.of_eq (gather_rows c (gathAll m ρ))) $$ [Hown Hrows]
  · isplitl [Hown] <;> iassumption
  icases Hg with ⟨Hg, Hrows⟩
  iapply (wp_load 𝒱₀ (c : Thread nD τ) none Set.univ (m := gM) (Finset.subset_univ _)) $$ Hg; iintro Hg
  rw [read_g]
  ihave Hg := (Entails.of_eq (gather_rows c (gathAll m ρ)).symm) $$ [Hg Hrows]
  · isplitl [Hg] <;> iassumption
  icases Hg with ⟨Hown, Hrows⟩
  iapply (wp_load 𝒱₀ (c : Thread nD τ) none Set.univ (m := oM) (Finset.subset_univ _)) $$ Hout; iintro Hout
  iapply (wp_store 𝒱₀ (c : Thread nD τ) none Set.univ (m := oM)
    (r := Rect.unit (s := S1024x512) ![0, 0] S1024x512.size inb_S1024x512_S1024x512_0_0) (Mk := Finset.univ) (Finset.subset_univ _)) $$ Hout; iintro Hout
  rw [write_out]
  ihave HatS := (Entails.of_eq (univ32 (fun j : Fin 32 => (atPos ER (sendCell c j) 0 ∅ 0 : sProp 𝕄)))) $$ HatS
  icases HatS with ⟨HatS0, HatS⟩
  iapply (cut (A := iprop(records m ρ K ∗ leftSt m ρ c 1 ∗ (rowPts c c (sh 0) (gathAll m ρ)
      ∗ (bigSep (run32 1) fun j => rowPts c (src c j) fullShare (gathAll m ρ))
      ∗ atPos ER (barCell c) 1 ∅ 0 ∗ atPos ER (sendCell c 0) 0 ∅ 0
      ∗ atPos ER (recvCell c 0) 0 ∅ 0 ∗ (bigSep (run32 1) fun j => atPos ER (recvCell c j) 1 ∅ 0)
      ∗ (((c : Thread nD τ).loc cc0_stg0_0) ↦{fullShare} xV m ρ c) ∗ (((c : Thread nD τ).loc cc0_stg1_0) ↦{fullShare} iV m ρ c)
      ∗ (((c : Thread nD τ).loc cc0_stg2_0) ↦{fullShare} wV m ρ c) ∗ (((c : Thread nD τ).loc cc0_stg3_0) ↦{fullShare} outV m ρ c)
      ∗ (bodyPost m ρ c -∗ Kt ⟨⟩)))) ?_) $$ [HatB HatS HatS0 HatV HatV0 HcS Hown Hrows HO Hx Hi Hw Hout Hk]
  rotate_left
  · isplitr; · iexact HK
    isplitl [HO HcS HatS]
    · iapply (left_start m ρ c)
      isplitl [HO]; · iexact HO
      isplitl [HcS] <;> iassumption
    isplitl [Hown]; · iexact Hown
    isplitl [Hrows]; · iexact Hrows
    isplitl [HatB]; · iexact HatB
    isplitl [HatS0]; · iexact HatS0
    isplitl [HatV0]; · iexact HatV0
    isplitl [HatV]; · iexact HatV
    isplitl [Hx]; · iexact Hx
    isplitl [Hi]; · iexact Hi
    isplitl [Hw]; · iexact Hw
    isplitl [Hout]; · iexact Hout
    iexact Hk
  -- the 31 departures
  refine wp_left m ρ K c 1 (by decide) rfl ?_
  refine wp_left m ρ K c 2 (by decide) rfl ?_
  refine wp_left m ρ K c 3 (by decide) rfl ?_
  refine wp_left m ρ K c 4 (by decide) rfl ?_
  refine wp_left m ρ K c 5 (by decide) rfl ?_
  refine wp_left m ρ K c 6 (by decide) rfl ?_
  refine wp_left m ρ K c 7 (by decide) rfl ?_
  refine wp_left m ρ K c 8 (by decide) rfl ?_
  refine wp_left m ρ K c 9 (by decide) rfl ?_
  refine wp_left m ρ K c 10 (by decide) rfl ?_
  refine wp_left m ρ K c 11 (by decide) rfl ?_
  refine wp_left m ρ K c 12 (by decide) rfl ?_
  refine wp_left m ρ K c 13 (by decide) rfl ?_
  refine wp_left m ρ K c 14 (by decide) rfl ?_
  refine wp_left m ρ K c 15 (by decide) rfl ?_
  refine wp_left m ρ K c 16 (by decide) rfl ?_
  refine wp_left m ρ K c 17 (by decide) rfl ?_
  refine wp_left m ρ K c 18 (by decide) rfl ?_
  refine wp_left m ρ K c 19 (by decide) rfl ?_
  refine wp_left m ρ K c 20 (by decide) rfl ?_
  refine wp_left m ρ K c 21 (by decide) rfl ?_
  refine wp_left m ρ K c 22 (by decide) rfl ?_
  refine wp_left m ρ K c 23 (by decide) rfl ?_
  refine wp_left m ρ K c 24 (by decide) rfl ?_
  refine wp_left m ρ K c 25 (by decide) rfl ?_
  refine wp_left m ρ K c 26 (by decide) rfl ?_
  refine wp_left m ρ K c 27 (by decide) rfl ?_
  refine wp_left m ρ K c 28 (by decide) rfl ?_
  refine wp_left m ρ K c 29 (by decide) rfl ?_
  refine wp_left m ρ K c 30 (by decide) rfl ?_
  refine wp_left m ρ K c 31 (by decide) rfl ?_
  iintro ⟨#HK, Hs, Hown, Hrows, HatB, HatS0, HatV0, HatV, Hx, Hi, Hw, Hout, Hk⟩
  ihave Hs' := (left_end m ρ c) $$ Hs
  icases Hs' with ⟨HO, HatS, Hleaves⟩
  rw [wp_ret]
  ihave Hown := (Entails.of_eq (row_leaves c c (gathAll m ρ)).symm) $$ [Hown Hleaves]
  · isplitl [Hown] <;> iassumption
  ihave Hscr := (Entails.of_eq (whole_sources c fullShare (gathAll m ρ)).symm) $$ [Hown Hrows]
  · isplitl [Hown] <;> iassumption
  imod (close_all m ρ K c) $$ [HatB HatS HatS0 HatV HatV0] with ⟨HzS, HzV, HzB⟩
  · isplitr; · iexact HK
    isplitl [HatB]; · iexact HatB
    isplitl [HatS0]; · iexact HatS0
    isplitl [HatS]; · iexact HatS
    isplitl [HatV0] <;> iassumption
  imodintro
  iapply Hk
  unfold bodyPost Φ₁ scr Dat.owesAt Pipeline.owesWithin owesE
  rw [show (dats m ρ 0 c).owed t0_0.succ = 0 from rfl]
  isplitl [Hscr HzS HzV HzB]
  · isplitl [Hscr]; · iexists _; iexact Hscr
    isplitl [HzS]; · iexact HzS
    isplitl [HzV] <;> iassumption
  isplitl [HO]
  · icases HO with ⟨%W, HO⟩
    iexists W
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

set_option maxRecDepth 4000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

set_option maxRecDepth 65536 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) (fun _ => bodyPost m ρ c)
  unfold bodyPre' Φ₀ start
  iintro ⟨⟨⟨⟨%K, Hg⟩, Hc, Hl⟩, Hscr⟩, Ho, Hx, Hi, Hw, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl] <;> iassumption
    isplitl [Ho]; · iexact Ho
    isplitl [Hx]; · iexact Hx
    isplitl [Hi]; · iexact Hi
    isplitl [Hw] <;> iassumption
  · iintro H; iexact H

end Cert.KernelIdealRun

end
-- ==== Proof.KernelIdealRun.Launch.lean ====
/-
# The launch

What the launch mints and deals, the side conditions of the launch theorem, and the run of the whole mesh.
-/
module

public import proofs.«01_k».proof.Proof.KernelIdealRun.Body
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf pointsTo_leaves)
open Idealize.ShloMosaic.Ring (rangeSet bigSep_rangeSet_head bigSep_rangeSet_last)

variable {F : FTy → Type} [FloatOps F]

local notation "𝕄" => MT nD τ sig Unit (Elt F) ℕ UU ℕ

variable (m : (ℓ : Loc nD τ sig) → Buf (Elt F) ℓ) (ρ : Dev nD → PrngReg)

/-! ## What the launch mints -/

theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective (kcell : Dev nD × Kd → GSem nD τ sig) := by
  rintro ⟨c, k⟩ ⟨c', k'⟩ h
  have h1 : c = c' := congrArg (fun g : GSem nD τ sig => g.1.1) h
  have h2 : csem k = csem k' := congrArg Prod.snd h
  have h3 : k = k' := by rw [← kind_csem k, ← kind_csem k', h2]
  rw [h1, h3]
def protoCells : Finset (GSem nD τ sig) := Finset.univ.map ⟨kcell, kcell_injective⟩

/-- A device's own cells' duty tokens as minted: its barrier's, one for each device, and one at each transfer cell. -/
abbrev Tk : Type := Dev nD ⊕ (Bool × Fin 32)
abbrev tokOf (ct : Dev nD × Tk) : GSem nD τ sig × ℕ × Dev nD := match ct.2 with
  | .inl p => (kcell (ct.1, .inl ()), 0, p)
  | .inr k => (kcell (ct.1, .inr k), 0, 0)
theorem tokOf_injective : Function.Injective (tokOf : Dev nD × Tk → GSem nD τ sig × ℕ × Dev nD) := by
  rintro ⟨c, t⟩ ⟨c', t'⟩ h
  rcases t with p | k <;> rcases t' with p' | k'
  · have h1 := kcell_injective (congrArg Prod.fst h)
    have h2 : p = p' := congrArg (fun x : GSem nD τ sig × ℕ × Dev nD => x.2.2) h
    rw [show c = c' from congrArg Prod.fst h1, h2]
  · exact absurd (congrArg Prod.snd (kcell_injective (congrArg Prod.fst h))) (by simp)
  · exact absurd (congrArg Prod.snd (kcell_injective (congrArg Prod.fst h))) (by simp)
  · have h1 := kcell_injective (congrArg Prod.fst h)
    rw [show c = c' from congrArg Prod.fst h1, show k = k' from Sum.inr.inj (congrArg Prod.snd h1)]
def protoToks : Finset (GSem nD τ sig × ℕ × Dev nD) := Finset.univ.map ⟨tokOf, tokOf_injective⟩

/-- The launch's ghost element: the pipeline's part beside the protocol's. -/
def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun p : Dev nD => dutyTok ER (barCell c) 0 p)
    ∗ (bigSep Finset.univ fun j : Fin 32 => dutyTok ER (sendCell c j) 0 (0 : Dev nD))
    ∗ bigSep Finset.univ fun j : Fin 32 => dutyTok ER (recvCell c j) 0 (0 : Dev nD))

/-- What the launch element deals device `c`. -/
def G (c : Dev nD) : sProp 𝕄 :=
  iprop((bigSep Finset.univ fun k : Kd => roundState ER (Rd m ρ) (kcell (c, k)) 0)
    ∗ (bigSep Finset.univ fun k : Kd => iprop(atPos ER (kcell (c, k)) 0 ∅ 0 ∗ reached ER (kcell (c, k)) 0)) ∗ toks c)

/-- What the global step makes of it. -/
def G' (c : Dev nD) : sProp 𝕄 := iprop(∃ K, ghost m ρ K c)

/-- Over the kinds of cell: the barrier, the send cells, the receive cells. -/
theorem bigSep_kinds (Φ : Kd → sProp 𝕄) : bigSep Finset.univ Φ
    = iprop(Φ (.inl ()) ∗ (bigSep Finset.univ fun j : Fin 32 => Φ (.inr (false, j))) ∗ bigSep Finset.univ fun j : Fin 32 => Φ (.inr (true, j))) := by
  rw [BI.bigSep_univ_sum, bigSep_univ_eq_bigSepL [()] (by decide) (by decide), bigSepL_singleton, bigSep_univ_prod,
    bigSep_univ_eq_bigSepL [false, true] (by decide) (by decide), bigSepL_cons_cons, bigSepL_singleton]
  rfl

theorem bigSep_pairs (Φ : Bool × Fin 32 → sProp 𝕄) : bigSep Finset.univ Φ
    = iprop((bigSep Finset.univ fun j : Fin 32 => Φ (false, j)) ∗ bigSep Finset.univ fun j : Fin 32 => Φ (true, j)) := by
  rw [bigSep_univ_prod, bigSep_univ_eq_bigSepL [false, true] (by decide) (by decide), bigSepL_cons_cons, bigSepL_singleton]
  rfl

theorem toks_minted (c : Dev nD) : (bigSep Finset.univ fun t : Tk => (dutyTok ER (tokOf (c, t)).1 (tokOf (c, t)).2.1 (tokOf (c, t)).2.2 : sProp 𝕄)) = toks c := by
  rw [BI.bigSep_univ_sum, bigSep_pairs]; rfl

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Kd => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => toks_minted c
  iintro HX
  imod (Rounds.fund ER (Rd m ρ) protoCells protoToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun j : Fin 32 => semVal (sendCell c j) 0) ∗ bigSep Finset.univ fun j : Fin 32 => semVal (recvCell c j) 0) := by
  unfold Pipeline.ownSems0; exact bigSep_pairs _
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) := by
  rw [ownSems0_eq, unscopedSems0_eq, bigSep_kinds]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kd => semVal (kcell (c, k)) 0) ∗ bigSep Finset.univ fun k : Kd => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop((bigSep (run32 1) fun j => dutyTok ER (barCell (peer c j)) 0 c)
    ∗ (bigSep (run32 1) fun j => dutyTok ER (sendCell c j) 0 (0 : Dev nD))
    ∗ bigSep (run32 1) fun j => dutyTok ER (recvCell (peer c j) j) 0 (0 : Dev nD))

theorem run_of_univ (Φ : Fin 32 → sProp 𝕄) : bigSep Finset.univ Φ ⊢ bigSep (run32 1) Φ :=
  BI.bigSep_subset (Finset.subset_univ _)

/-- Every barrier's token for device `c` goes to `c`; -/
theorem bar_around : (bigSep Finset.univ fun c : Dev nD => bigSep Finset.univ fun p : Dev nD => (dutyTok ER (barCell c) 0 p : sProp 𝕄))
    ⊢ bigSep Finset.univ fun c : Dev nD => bigSep (run32 1) fun j => dutyTok ER (barCell (peer c j)) 0 c := by
  rw [Pipeline.bigSep_univ_comm]
  refine bigSep_mono fun p _ => ?_
  rw [bigSep_univ_equiv (places p) (fun c : Dev nD => (dutyTok ER (barCell c) 0 p : sProp 𝕄))]
  exact run_of_univ _
/-- the token of the `j`-th receive cell to the device `j` places before. -/
theorem recv_around : (bigSep Finset.univ fun c : Dev nD => bigSep Finset.univ fun j : Fin 32 => (dutyTok ER (recvCell c j) 0 (0 : Dev nD) : sProp 𝕄))
    ⊢ bigSep Finset.univ fun c : Dev nD => bigSep (run32 1) fun j => dutyTok ER (recvCell (peer c j) j) 0 (0 : Dev nD) := by
  rw [Pipeline.bigSep_univ_comm]
  rw [show (fun j : Fin 32 => bigSep Finset.univ fun c : Dev nD => (dutyTok ER (recvCell c j) 0 (0 : Dev nD) : sProp 𝕄))
      = fun j : Fin 32 => bigSep Finset.univ fun c : Dev nD => dutyTok ER (recvCell (peer c j) j) 0 (0 : Dev nD) from
    funext fun j => bigSep_univ_equiv (step j) (fun c : Dev nD => (dutyTok ER (recvCell c j) 0 (0 : Dev nD) : sProp 𝕄))]
  rw [Pipeline.bigSep_univ_comm]
  exact bigSep_mono fun c _ => run_of_univ _

theorem send_around : (bigSep Finset.univ fun c : Dev nD => bigSep Finset.univ fun j : Fin 32 => (dutyTok ER (sendCell c j) 0 (0 : Dev nD) : sProp 𝕄))
    ⊢ bigSep Finset.univ fun c : Dev nD => bigSep (run32 1) fun j => dutyTok ER (sendCell c j) 0 (0 : Dev nD) :=
  bigSep_mono fun c _ => run_of_univ _

theorem toks_around : (bigSep Finset.univ fun c : Dev nD => (toks c : sProp 𝕄)) ⊢ bigSep Finset.univ fun c : Dev nD => payToks c := by
  unfold toks payToks
  rw [bigSep_sep', bigSep_sep', bigSep_sep', bigSep_sep']
  iintro ⟨H1, H2, H3⟩
  isplitl [H1]; · iapply (bar_around (F := F)); iexact H1
  isplitl [H2]
  · iapply (send_around (F := F))
    iexact H2
  iapply (recv_around (F := F)); iexact H3

theorem with_records {K : Dev nD × Kd → ℕ} {Φ Ψ : Dev nD → sProp 𝕄}
    (h : ∀ c, iprop(records m ρ K ∗ Φ c) ⊢ Ψ c) : iprop(records m ρ K ∗ bigSep Finset.univ Φ) ⊢ bigSep Finset.univ Ψ :=
  (sep_mono_left (BI.bigSep_of_persistent Finset.univ (records m ρ K))).trans (by rw [← bigSep_sep']; exact bigSep_mono fun c _ => h c)

/-- Device `c`'s positions and the tokens it pays. -/
def linear (c : Dev nD) : sProp 𝕄 :=
  iprop((atPos ER (barCell c) 0 ∅ 0 ∗ (bigSep Finset.univ fun j : Fin 32 => atPos ER (sendCell c j) 0 ∅ 0)
    ∗ bigSep Finset.univ fun j : Fin 32 => atPos ER (recvCell c j) 0 ∅ 0) ∗ payToks c)

theorem ghost_intro (K : Dev nD × Kd → ℕ) (c : Dev nD) : iprop(records m ρ K ∗ linear c) ⊢ G' m ρ c := by
  unfold linear payToks G' ghost
  iintro ⟨#HK, ⟨HaB, HaS, HaV⟩, HtB, HtS, HtV⟩
  iexists K
  isplitr; · iexact HK
  isplitl [HaB]; · iexact HaB
  isplitl [HaS]; · iexact HaS
  isplitl [HaV]; · iexact HaV
  isplitl [HtB]; · iexact HtB
  isplitl [HtS]; · iexact HtS
  iexact HtV

theorem linear_all : iprop((bigSep Finset.univ fun c : Dev nD => bigSep Finset.univ fun k : Kd => (atPos ER (kcell (c, k)) 0 ∅ 0 : sProp 𝕄))
      ∗ bigSep Finset.univ fun c : Dev nD => (payToks c : sProp 𝕄)) ⊢ bigSep Finset.univ fun c : Dev nD => (linear c : sProp 𝕄) := by
  rw [← bigSep_sep']
  refine bigSep_mono fun c _ => ?_
  show iprop((bigSep Finset.univ fun k : Kd => (atPos ER (kcell (c, k)) 0 ∅ 0 : sProp 𝕄)) ∗ payToks c) ⊢ linear c
  rw [bigSep_kinds]
  exact BI.Entails.refl _

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Kd => iprop(∃ κ : ℕ, cellInv ER (Rd m ρ) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (Rd m ρ) κ (kcell ck) : sProp 𝕄))) $$ HI
  icases HK with ⟨%K, #HI⟩
  ihave Htk := (toks_around (F := F)) $$ Htok
  iapply (with_records m ρ (K := K) (ghost_intro m ρ K))
  isplitr
  · unfold records; isplitl; · iexact HI
    iexact HR
  · iapply (linear_all (F := F))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem credit_recv (c : Dev nD) : (Pipeline.launchCred (fun d => Orecv d 1) c : sProp 𝕄) ⊢ bigSep (run32 1) fun j => cred (tallyAt (recvCell c j) () N) := by
  unfold Orecv
  rw [Pipeline.launchCred_sum (run32 1) (fun j d => tallyAt (recvCell (peer d j) j) () N)]
  exact bigSep_mono fun j _ => Pipeline.launchCred_tallyAt (.dma (rS j)) (fun d => peer d j) (fun d => src d j) (fun d => peer_src d j) (fun d => src_peer d j) () N c

theorem bar_units (c : Dev nD) : (∑ j ∈ run32 1, tallyAt (barCell c) () 1 : CellTallies nD τ sig Unit) = tallyAt (barCell c) () 31 := by
  rw [Finset.sum_const, show (run32 1).card = 31 by decide]
  unfold tallyAt
  rw [show (Finsupp.single () 31 : Unit →₀ ℕ) = 31 • Finsupp.single () 1 by rw [Finsupp.smul_single]; rfl]
  funext g
  unfold tallyOn
  rw [Pi.smul_apply]
  by_cases h : g = barCell c
  · subst h; simp
  · simp [h]

theorem credit_bar (c : Dev nD) : (Pipeline.launchCred (fun d => Obar d 1) c : sProp 𝕄) ⊢ cred (tallyAt (barCell c) () 31) := by
  unfold Obar
  rw [Pipeline.launchCred_sum (run32 1) (fun j d => tallyAt (barCell (peer d j)) () 1), ← bar_units, Pipeline.cred_finsetSum]
  exact bigSep_mono fun j _ => Pipeline.launchCred_tallyAt (.reg barS) (fun d => peer d j) (fun d => src d j) (fun d => peer_src d j) (fun d => src_peer d j) () 1 c

theorem credit (c : Dev nD) : (Pipeline.launchCred O₀ c : sProp 𝕄) ⊢ creds c := by
  unfold creds
  rw [show (O₀ : Dev nD → CellTallies nD τ sig Unit) = fun d => Orecv d 1 + Obar d 1 from rfl, Pipeline.launchCred_add]
  iintro ⟨H1, H2⟩
  isplitl [H2]; · iapply (credit_bar (F := F) c); iexact H2
  iapply (credit_recv (F := F) c); iexact H1

/-! ## The side conditions -/

/-- The argument no window stages, at what it held. -/
def kept (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ kept m c) := by
  rw [Pipeline.unscopedRestP_none, unscopedRest0_eq]
  iintro ⟨Harg, Hlev, Hcr, -, HG⟩
  ihave Hc := (credit (F := F) c) $$ Hcr
  imodintro
  unfold start G' kept
  isplitr [Harg]
  · isplitl [HG]; · iexact HG
    isplitl [Hc]; · iexact Hc
    iexact Hlev
  · iexact Harg

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scr
  iintro ⟨Hr, HzS, HzV, HzB⟩
  isplitl [HzB]; · iexact HzB
  isplitl [HzS HzV]
  · isplitl [HzS]; · iexact HzS
    iexact HzV
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- What every final state has on device `c`, window arrays and the argument no window stages. -/
def QC (c : Dev nD) (s : MemSt nD τ sig (Elt F)) : Prop :=
  (∀ w : Fin cfg0.W, s.mem ((cfg0.win w).arr.view.loc (c : Thread nD τ)) = finalA m ρ c w)
    ∧ s.mem ((c : Thread nD τ).loc main_arg1) = m ((c : Thread nD τ).loc main_arg1)

theorem kept_read (c : Dev nD) (s' : Phys nD τ sig (Elt F)) :
    iprop(kept m c ∗ SI s') ⊢ (iprop(⌜s'.mem.mem ((c : Thread nD τ).loc main_arg1) = m ((c : Thread nD τ).loc main_arg1)⌝ ∗ SI s') : sProp 𝕄) := by
  have h := pointsTo_read_all (Ix := Unit) (Name := ℕ) (U := UU) (Lvl := ℕ) ({()} : Finset Unit) (fun _ => (c : Thread nD τ).loc main_arg1)
    (fun _ => m ((c : Thread nD τ).loc main_arg1)) s'
  rw [bigSep_singleton] at h
  unfold kept
  refine h.trans ?_
  iintro ⟨%h1, HS⟩
  isplitr; · ipureintro; exact h1 () (Finset.mem_singleton_self _)
  iexact HS

set_option maxRecDepth 8000 in
/-- At the compiled mesh, for any float values, from any memory with zero counters: every weakly fair execution of the
    program terminates, and every final state has the window arrays at the computed contents, the remaining argument
    unchanged and every semaphore counter at zero. -/
theorem run_arrays : θ_run defs (onTc (τ := τ) (main (F := F))) (s₀ m ρ) (fun r => (∀ c : Dev nD, QC m ρ c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun c => unscopedSems0 c) (Z := kept m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hk, HSI⟩
      ihave H := (kept_read m c s') $$ [Hk HSI]
      · isplitl [Hk] <;> iassumption
      icases H with ⟨%hk, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, hk⟩
      iexact HSI)
    (hQ := fun _ h hs => ⟨fun c => ⟨(h c).1, (h c).2.2.2⟩, sem_eq_zero hs fun c => (h c).2.2.1⟩)

theorem arr_in (c : Dev nD) (w : Fin 4) (h : (cfg0.win w).isOut = false) :
    finalA m ρ c w = (s₀ m ρ).mem ((cfg0.win w).arr.view.loc (c : Thread nD τ)) :=
  (dats (F := F) m ρ 0 c).arrAt_in w h _

end Cert.KernelIdealRun

end
-- ==== Proof.KernelIdealRun.Run.lean ====
/-
# What the run leaves

The arrays the launch ends with, read: the arguments as they were, and the result as the kernel's own expression of the
gather buffer every device ends up with.
-/
module

public import proofs.«01_k».proof.Proof.KernelIdealRun.Launch

@[expose] public section

noncomputable section

namespace Cert.KernelIdealRun

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The one block of the tokens' window is the whole array. -/
theorem blk_x (b : FVec F S1024x256 .bf16) : (win0_0.blk (0 : Fin 1)).view.read (Elt F) b = b := by
  funext i
  show b _ = b i
  congr 1
  funext a
  apply Fin.ext
  fin_cases a <;> exact (Nat.zero_add _).trans (Nat.one_mul _)

/-- The one block of the expert ids' window is the whole array. -/
theorem blk_i (b : IVec S1024x1 32) : (win0_1.blk (0 : Fin 1)).view.read (Elt F) b = b := by
  funext i
  show b _ = b i
  congr 1
  funext a
  apply Fin.ext
  fin_cases a <;> exact (Nat.zero_add _).trans (Nat.one_mul _)

/-- The one block of the weights' window is the whole array. -/
theorem blk_w (b : FVec F S4x256x512 .bf16) : (win0_2.blk (0 : Fin 1)).view.read (Elt F) b = b := by
  funext i
  show b _ = b i
  congr 1
  funext a
  apply Fin.ext
  fin_cases a <;> exact (Nat.zero_add _).trans (Nat.one_mul _)

/-- The one block of the result's window is the whole array. -/
theorem blk_o (b : FVec F S1024x512 .f32) : (win0_3.blk (0 : Fin 1)).view.read (Elt F) b = b := by
  funext i
  show b _ = b i
  congr 1
  funext a
  apply Fin.ext
  fin_cases a <;> exact (Nat.zero_add _).trans (Nat.one_mul _)

/-- What the body reads of the tokens is the argument; -/
theorem xV_eq (c : Dev nD) : xV m ρ c = m ((c : Thread nD τ).loc main_arg0) := blk_x _
/-- of the expert ids, the argument; -/
theorem iV_eq (c : Dev nD) : iV m ρ c = m ((c : Thread nD τ).loc main_arg2) := blk_i _
/-- and of the weights, the device's block of them. -/
theorem wV_eq (c : Dev nD) : wV m ρ c = m ((c : Thread nD τ).loc main_arg3) := blk_w _

/-- The result array ends holding what the body stored. -/
theorem finalA_out (c : Dev nD) : finalA m ρ c (3 : Fin 4) = outV m ρ c := by
  refine (blk_o (F := F) _).symm.trans ?_
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

/-- The whole mesh runs: the arguments end as they were, the result holds `outV`, and every counter is zero again. -/
theorem run_main : θ_run defs (onTc (τ := τ) (main (F := F))) ⟨m, fun _ => 0, ρ⟩ (fun r =>
    (∀ c : Dev nD, r.2.mem ((c.tc : Thread nD τ).loc main_v1) = outV m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c =>
    ⟨((h.1 c).1 (3 : Fin 4)).trans (finalA_out m ρ c),
     ((h.1 c).1 (0 : Fin 4)).trans (arr_in m ρ c 0 rfl),
     (h.1 c).2,
     ((h.1 c).1 (1 : Fin 4)).trans (arr_in m ρ c 1 rfl),
     ((h.1 c).1 (2 : Fin 4)).trans (arr_in m ρ c 2 rfl)⟩, h.2⟩) (run_arrays m ρ)

end Cert.KernelIdealRun

end
-- ==== Proof.Value.Slots.lean ====
/-
# Slots: which row of the gather buffer a token takes

A token names an expert by a 32-bit word. It is kept by that expert if fewer than six earlier tokens named the same one; its
slot is then six times the expert's number plus the number of those earlier tokens, and 768, a row that does not exist, if
no expert keeps it. Two tokens never share a row.
-/
module

public import Mathlib.Data.EReal.Basic
public import Mathlib.Algebra.BigOperators.Ring.Finset

@[expose] public section

noncomputable section

namespace Cert.Value

open Classical

variable (e : Fin 1024 → BitVec 32)

/-- How many tokens before token `t` name expert `c`. -/
def earlier (t : Fin 1024) (c : Fin 128) : ℕ := (Finset.univ.filter fun k : Fin 1024 => k < t ∧ e k = BitVec.ofNat 32 c.val).card

/-- Token `t` names expert `c` and is among the first six tokens that do. -/
def Kept (t : Fin 1024) (c : Fin 128) : Prop := e t = BitVec.ofNat 32 c.val ∧ earlier e t c < 6

/-- Token `t`'s row of the gather buffer, 768 if no expert keeps it. -/
def slot (t : Fin 1024) : ℕ := if h : ∃ c, Kept e t c then 6 * h.choose.val + earlier e t h.choose else 768

theorem word_inj {c c' : Fin 128} (h : BitVec.ofNat 32 c.val = BitVec.ofNat 32 c'.val) : c = c' := by
  have h1 := congrArg BitVec.toNat h
  have hc := c.isLt
  have hc' := c'.isLt
  simp only [BitVec.toNat_ofNat] at h1
  apply Fin.ext
  omega

theorem earlier_le (t : Fin 1024) (c : Fin 128) : earlier e t c ≤ 1024 :=
  (Finset.card_le_univ _).trans (by simp)

variable {e}

/-- A token is kept by at most one expert. -/
theorem Kept.unique {t : Fin 1024} {c c' : Fin 128} (h : Kept e t c) (h' : Kept e t c') : c = c' := word_inj (h.1.symm.trans h'.1)

/-- The slot of a token that `c` keeps. -/
theorem slot_kept {t : Fin 1024} {c : Fin 128} (h : Kept e t c) : slot e t = 6 * c.val + earlier e t c := by
  have hex : ∃ c, Kept e t c := ⟨c, h⟩
  have hc : hex.choose = c := hex.choose_spec.unique h
  unfold slot
  rw [dif_pos hex, hc]

/-- The slot of a token that no expert keeps. -/
theorem slot_none {t : Fin 1024} (h : ¬ ∃ c, Kept e t c) : slot e t = 768 := dif_neg h

theorem slot_lt {t : Fin 1024} {c : Fin 128} (h : Kept e t c) : slot e t < 768 := by
  rw [slot_kept h]
  have := h.2
  have := c.isLt
  omega

/-- A token whose slot is a row of expert `c` is kept by `c`. -/
theorem kept_of_slot {t : Fin 1024} (h : slot e t < 768) : ∃ c, Kept e t c := by
  by_contra hn
  rw [slot_none hn] at h
  exact absurd h (by decide)

theorem earlier_lt {t t' : Fin 1024} {c : Fin 128} (h : e t = BitVec.ofNat 32 c.val) (ht : t < t') : earlier e t c < earlier e t' c := by
  apply Finset.card_lt_card
  refine ⟨fun k hk => ?_, fun hsub => ?_⟩
  · rw [Finset.mem_filter] at hk ⊢
    exact ⟨hk.1, hk.2.1.trans ht, hk.2.2⟩
  · have := hsub (Finset.mem_filter.2 ⟨Finset.mem_univ t, ht, h⟩)
    exact lt_irrefl t (Finset.mem_filter.1 this).2.1

/-- No two tokens have the same row. -/
theorem slot_inj {t t' : Fin 1024} (h : slot e t < 768) (hs : slot e t = slot e t') : t = t' := by
  obtain ⟨c, hc⟩ := kept_of_slot h
  obtain ⟨c', hc'⟩ := kept_of_slot (hs ▸ h)
  rw [slot_kept hc, slot_kept hc'] at hs
  have h6 := hc.2
  have h6' := hc'.2
  have hcc : c = c' := Fin.ext (by omega)
  subst hcc
  have hee : earlier e t c = earlier e t' c := by omega
  rcases lt_trichotomy t t' with hlt | heq | hgt
  · exact absurd hee (earlier_lt hc.1 hlt).ne
  · exact heq
  · exact absurd hee (earlier_lt hc'.1 hgt).ne'

/-- The tokens gathered into row `r` add up to the one token whose slot it is. -/
theorem sum_slot {t : Fin 1024} (h : slot e t < 768) (f : Fin 1024 → EReal) :
    (∑ s : Fin 1024, (if slot e s = slot e t then (1 : EReal) else 0) * f s) = f t := by
  rw [Finset.sum_eq_single t]
  · rw [if_pos rfl, one_mul]
  · intro s _ hst
    rw [if_neg fun hs => hst (slot_inj h hs.symm).symm, zero_mul]
  · exact fun hn => absurd (Finset.mem_univ t) hn

/-- A sum of products of two indicators is a count. -/
theorem sum_indicators (t : Fin 1024) (c : Fin 128) :
    (∑ k : Fin 1024, (if k < t then (1 : EReal) else 0) * (if e k = BitVec.ofNat 32 c.val then (1 : EReal) else 0)) = ((earlier e t c : ℕ) : EReal) := by
  unfold earlier
  rw [← Finset.sum_boole]
  refine Finset.sum_congr rfl fun k _ => ?_
  by_cases h1 : k < t <;> by_cases h2 : e k = BitVec.ofNat 32 c.val <;> simp [h1, h2]

/-- The sum over the experts of a value at the one that keeps the token, if one does. -/
theorem sum_kept {t : Fin 1024} {c : Fin 128} (h : Kept e t c) (f : Fin 128 → EReal) :
    (∑ c' : Fin 128, (if Kept e t c' then (1 : EReal) else 0) * f c') = f c := by
  rw [Finset.sum_eq_single c]
  · rw [if_pos h, one_mul]
  · intro s _ hst
    rw [if_neg fun hs => hst (hs.unique h), zero_mul]
  · exact fun hn => absurd (Finset.mem_univ c) hn

theorem sum_not_kept {t : Fin 1024} (h : ¬ ∃ c, Kept e t c) (f : Fin 128 → EReal) :
    (∑ c' : Fin 128, (if Kept e t c' then (1 : EReal) else 0) * f c') = 0 :=
  Finset.sum_eq_zero fun c _ => by rw [if_neg fun hc => h ⟨c, hc⟩, zero_mul]

end Cert.Value

end
-- ==== Proof.Value.Kernel.lean ====
/-
# What the kernel's payloads compute over the extended reals

Each payload of the ideal kernel read at an index, by the slots of the tokens.
-/
module

public import proofs.«01_k».proof.Proof.KernelIdealRun.Run
public import proofs.«01_k».proof.Proof.Value.Slots
public import Idealize.ShloMosaic.Lib.Pointwise

@[expose] public section

noncomputable section

namespace Cert.Value

open Idealize.ShloMosaic
open Idealize.ShloMosaic.TcCoe
open Cert.KernelIdeal Cert.KernelIdeal.Gen
open Classical

/-! ## Words and literals -/

theorem lit_six : Ideal.ofBits .f32 1086324736#32 = ((6 : ℕ) : EReal) := by
  rw [show ((6 : ℕ) : EReal) = ((6 : ℝ) : EReal) by norm_cast]
  simp [Ideal.ofBits, Ideal.ieee, -EReal.coe_mul]; norm_num
theorem lit_24 : Ideal.ofBits .f32 1103101952#32 = ((24 : ℕ) : EReal) := by
  rw [show ((24 : ℕ) : EReal) = ((24 : ℝ) : EReal) by norm_cast]
  simp [Ideal.ofBits, Ideal.ieee, -EReal.coe_mul]; norm_num
theorem lit_768 : Ideal.ofBits .f32 1145044992#32 = ((768 : ℕ) : EReal) := by
  rw [show ((768 : ℕ) : EReal) = ((768 : ℝ) : EReal) by norm_cast]
  simp [Ideal.ofBits, Ideal.ieee, -EReal.coe_mul]; norm_num

/-- A small number's word, read signed, is the number. -/
theorem toInt_nat (n : ℕ) (h : n < 2147483648) : (BitVec.ofNat 32 n).toInt = (n : ℤ) := by
  rw [BitVec.toInt_eq_toNat_of_lt (by rw [BitVec.toNat_ofNat]; omega), BitVec.toNat_ofNat, Nat.mod_eq_of_lt (by omega)]

/-- A small number's word, read as a float, is the number. -/
theorem sitofp_nat (n : ℕ) (h : n < 2147483648) : (FloatOps.sitofp FTy.f32 (BitVec.ofNat 32 n) : Ideal .f32) = ((n : ℕ) : EReal) := by
  show ((((BitVec.ofNat 32 n).toInt : ℤ) : ℝ) : EReal) = _
  rw [toInt_nat n h]
  norm_cast

/-- A truth value widened to a word and read as a float is 1 or 0. -/
theorem sitofp_bit (p : Prop) [Decidable p] :
    (FloatOps.sitofp FTy.f32 (BitVec.setWidth 32 (BitVec.ofBool (decide p))) : Ideal .f32) = if p then (1 : EReal) else 0 := by
  by_cases h : p
  · rw [if_pos h, decide_eq_true h]
    exact (sitofp_nat 1 (by decide)).trans Nat.cast_one
  · rw [if_neg h, decide_eq_false h]
    exact (sitofp_nat 0 (by decide)).trans Nat.cast_zero

theorem cmpi_eq (a b : BitVec 32) : IntOp.cmpi CmpIPredicate.eq a b = BitVec.ofBool (decide (a = b)) := rfl

theorem cmpi_slt (a b : ℕ) (ha : a < 2147483648) (hb : b < 2147483648) :
    IntOp.cmpi CmpIPredicate.slt (BitVec.ofNat 32 a) (BitVec.ofNat 32 b) = BitVec.ofBool (decide (a < b)) := by
  show BitVec.ofBool (BitVec.slt _ _) = _
  congr 1
  simp only [BitVec.slt, toInt_nat a ha, toInt_nat b hb, Nat.cast_lt]

theorem andi_bool (p q : Prop) [Decidable p] [Decidable q] :
    IntOp.andi (BitVec.ofBool (decide p)) (BitVec.ofBool (decide q)) = BitVec.ofBool (decide (p ∧ q)) := by
  by_cases hp : p <;> by_cases hq : q <;> simp [hp, hq] <;> rfl

theorem cast_lt {a b : ℕ} : ((a : ℕ) : EReal) < ((b : ℕ) : EReal) ↔ a < b := by exact_mod_cast Iff.rfl
theorem cast_le {a b : ℕ} : ((a : ℕ) : EReal) ≤ ((b : ℕ) : EReal) ↔ a ≤ b := by exact_mod_cast Iff.rfl
theorem cast_inj {a b : ℕ} : ((a : ℕ) : EReal) = ((b : ℕ) : EReal) ↔ a = b := by exact_mod_cast Iff.rfl

/-! ## The payloads -/

/-- The expert that each token names. -/
def ids (v : Vec Ideal S1024x1 .i32) : Fin 1024 → BitVec 32 := fun t => v (ix2 t 0)

variable (v : Vec Ideal S1024x1 .i32)

theorem pay1_at (t : Fin 1024) (c : Fin 128) : k0_pay1 (F := Ideal) v (ix2 t c) = BitVec.ofBool (decide (ids v t = BitVec.ofNat 32 c.val)) := by
  pointwise [k0_pay1]
  rfl

theorem pay2_at (t : Fin 1024) (c : Fin 128) : k0_pay2 (F := Ideal) v (ix2 t c) = ((earlier (ids v) t c : ℕ) : EReal) := by
  pointwise [k0_pay2]
  rw [← sum_indicators]
  refine Finset.sum_congr rfl fun k _ => ?_
  have hk := k.isLt
  have ht := t.isLt
  rw [pay1_at, cmpi_slt _ _ (by omega) (by omega), sitofp_bit, sitofp_bit]
  rfl

theorem pay3_at (t : Fin 1024) (c : Fin 128) : k0_pay3 (F := Ideal) v (ix2 t c) = if Kept (ids v) t c then (1 : EReal) else 0 := by
  pointwise [k0_pay3]
  rw [pay1_at, pay2_at, lit_six, sitofp_bit, sitofp_bit]
  by_cases h1 : ids v t = BitVec.ofNat 32 c.val <;> by_cases h2 : earlier (ids v) t c < 6 <;> simp [h1, h2, Kept, cast_lt]

/-- The kernel's row number of a kept token. -/
theorem pay4_kept {t : Fin 1024} {c : Fin 128} (h : Kept (ids v) t c) : k0_pay4 (F := Ideal) v (ix1 t) = ((slot (ids v) t : ℕ) : EReal) := by
  pointwise [k0_pay4]
  simp only [pay3_at]
  rw [sum_kept h, lit_six, pay2_at, sitofp_nat _ (by have := c.isLt; omega), slot_kept h]
  push_cast
  rfl

theorem pay5_kept {t : Fin 1024} {c : Fin 128} (h : Kept (ids v) t c) : k0_pay5 (F := Ideal) v (ix1 t) = 1 := by
  pointwise [k0_pay5]
  simp only [pay3_at]
  simpa only [mul_one] using sum_kept h (fun _ => 1)

theorem pay5_none {t : Fin 1024} (h : ¬ ∃ c, Kept (ids v) t c) : k0_pay5 (F := Ideal) v (ix1 t) = 0 := by
  pointwise [k0_pay5]
  simp only [pay3_at]
  simpa only [mul_one] using sum_not_kept h (fun _ => 1)

/-- Every token's row number, as the last product uses it. -/
theorem pay6_at (t : Fin 1024) : k0_pay6 (F := Ideal) v (ix1 t) = ((slot (ids v) t : ℕ) : EReal) := by
  pointwise [k0_pay6]
  by_cases h : ∃ c, Kept (ids v) t c
  · obtain ⟨c, hc⟩ := h
    rw [pay5_kept v hc, pay4_kept v hc, if_pos (by norm_num)]
  · rw [pay5_none v h, if_neg (lt_irrefl _), slot_none h, lit_768]

/-- The one-hot matrix of the last product. -/
theorem pay12_at (t : Fin 1024) (r : Fin 768) : k0_pay12 (F := Ideal) (k0_pay6 v) (ix2 t r) = if slot (ids v) t = r.val then (1 : EReal) else 0 := by
  pointwise [k0_pay12]
  rw [pay6_at, sitofp_nat _ (by have := r.isLt; omega), sitofp_bit]
  simp only [cast_inj, eq_comm]

/-- The last product: a token's row of the gather buffer, or zero. -/
theorem pay13_at (g : Vec Ideal S768x512 .bf16) (t : Fin 1024) (f : Fin 512) :
    k0_pay13 (F := Ideal) (k0_pay12 (k0_pay6 v)) g (ix2 t f) = if h : slot (ids v) t < 768 then g (ix2 ⟨slot (ids v) t, h⟩ f) else 0 := by
  pointwise [k0_pay13]
  simp only [pay12_at]
  by_cases h : slot (ids v) t < 768
  · rw [dif_pos h, Finset.sum_eq_single (⟨slot (ids v) t, h⟩ : Fin 768)]
    · rw [if_pos rfl, one_mul]
    · intro r _ hr
      rw [if_neg fun hs => hr (Fin.ext hs.symm), zero_mul]
    · exact fun hn => absurd (Finset.mem_univ _) hn
  · rw [dif_neg h]
    exact Finset.sum_eq_zero fun r _ => by rw [if_neg fun hs => h (lt_of_eq_of_lt hs r.isLt), zero_mul]

/-! ## A device's rows -/

/-- The word the kernel computes a device's first row from. -/
def devWord (d : Dev nD) : BitVec 32 := Scalar.remsi (Scalar.divsi (Dev.word d) 1#32) 32#32

theorem base_eq : ∀ d : Dev nD, (Scalar.muli (devWord d) 24#32).toInt = ((24 * d.val : ℕ) : ℤ) := by decide +kernel

theorem base_cast (d : Dev nD) : ((((Scalar.muli (devWord d) 24#32).toInt : ℤ) : ℝ) : EReal) = ((24 * d.val : ℕ) : EReal) := by
  rw [base_eq]
  norm_cast

/-- Whether row `p` of device `d` is token `t`'s. -/
theorem hit (d : Dev nD) (p : Fin 24) (t : Fin 1024) :
    (((p.val : ℕ) : EReal) = if (((24 * d.val : ℕ) : EReal) ≤ k0_pay4 (F := Ideal) v (ix1 t)
        ∧ k0_pay4 (F := Ideal) v (ix1 t) < ((24 * d.val : ℕ) : EReal) + ((24 : ℕ) : EReal)) ∧ 0 < k0_pay5 (F := Ideal) v (ix1 t)
      then k0_pay4 (F := Ideal) v (ix1 t) - ((24 * d.val : ℕ) : EReal) else ((24 : ℕ) : EReal))
      ↔ slot (ids v) t = 24 * d.val + p.val := by
  have hp := p.isLt
  have hd : d.val < 32 := d.isLt
  by_cases h : ∃ c, Kept (ids v) t c
  · obtain ⟨c, hc⟩ := h
    simp only [pay4_kept v hc, pay5_kept v hc, ← Nat.cast_add, cast_le, cast_lt]
    by_cases hr : 24 * d.val ≤ slot (ids v) t ∧ slot (ids v) t < 24 * d.val + 24
    · rw [if_pos ⟨hr, by norm_num⟩]
      obtain ⟨q, hq⟩ := Nat.exists_eq_add_of_le hr.1
      rw [hq]
      have : ((24 * d.val + q : ℕ) : EReal) - ((24 * d.val : ℕ) : EReal) = ((q : ℕ) : EReal) := by
        have e1 : ((24 * d.val + q : ℕ) : EReal) = (((24 * d.val + q : ℕ) : ℝ) : EReal) := by norm_cast
        have e2 : ((24 * d.val : ℕ) : EReal) = (((24 * d.val : ℕ) : ℝ) : EReal) := by norm_cast
        have e3 : ((q : ℕ) : EReal) = ((q : ℝ) : EReal) := by norm_cast
        rw [e1, e2, e3, ← EReal.coe_sub]
        congr 1
        push_cast
        ring
      rw [this, cast_inj]
      omega
    · rw [if_neg fun hh => hr hh.1, cast_inj]
      omega
  · rw [pay5_none v h, if_neg fun hh => lt_irrefl _ hh.2, cast_inj, slot_none h]
    omega

/-- Row `p` of what device `d` gathers of the tokens. -/
theorem pay7_at (d : Dev nD) (x : Vec Ideal S1024x256 .bf16) (p : Fin 24) (k : Fin 256) :
    k0_pay7 (F := Ideal) (devWord d) (k0_pay4 v) (k0_pay5 v) 24#32 x (ix2 p k)
      = ∑ t : Fin 1024, (if slot (ids v) t = 24 * d.val + p.val then (1 : EReal) else 0) * x (ix2 t k) := by
  pointwise [k0_pay7]
  refine Finset.sum_congr rfl fun t _ => ?_
  rw [andi_bool, andi_bool, base_cast, lit_24, sitofp_nat _ (by have := p.isLt; omega), sitofp_bit]
  congr 1
  refine if_congr (Iff.trans ?_ (hit v d p t)) rfl rfl
  simp only [Scalar.select_ofBool, decide_eq_true_eq]

/-- Row `r` of the tokens a device gathers, where `r` is token `t`'s slot: token `t`. -/
theorem pay7_slot (d : Dev nD) (x : Vec Ideal S1024x256 .bf16) (p : Fin 24) (k : Fin 256) (t : Fin 1024)
    (h : slot (ids v) t = 24 * d.val + p.val) :
    k0_pay7 (F := Ideal) (devWord d) (k0_pay4 v) (k0_pay5 v) 24#32 x (ix2 p k) = x (ix2 t k) := by
  have hlt : slot (ids v) t < 768 := by
    have hp := p.isLt
    have hd : d.val < 32 := d.isLt
    omega
  rw [pay7_at, ← h]
  exact sum_slot hlt fun s => x (ix2 s k)

/-- The weights of one of a device's four experts, read at an entry. -/
theorem wAt_at (w : Vec Ideal S4x256x512 .bf16) (j : Fin 4) (k : Fin 256) (f : Fin 512) :
    KernelIdealRun.wAt (F := Ideal) w j (ix3 0 k f) = w (ix3 j k f) := by
  unfold KernelIdealRun.wAt
  show w _ = w _
  congr 1
  funext a
  apply Fin.ext
  fin_cases a
  · show j.val + 1 * 0 = j.val; omega
  · show 0 + 1 * k.val = k.val; omega
  · show 0 + 1 * f.val = f.val; omega

/-- The four products of six gathered rows each, laid end to end: row `p` is the gathered row times its expert's weights. -/
theorem rows_word (b : BitVec 32) (x : Vec Ideal S1024x256 .bf16) (w : Fin 4 → Vec Ideal S1x256x512 .bf16) (w0 w1 w2 w3 : Vec Ideal S1x256x512 .bf16)
    (hw0 : w 0 = w0) (hw1 : w 1 = w1) (hw2 : w 2 = w2) (hw3 : w 3 = w3) (p : Fin 24) (f : Fin 512) (j : Fin 4) (hj : p.val / 6 = j.val) :
    k0_pay11 (F := Ideal) (k0_pay7 b (k0_pay4 v) (k0_pay5 v) 24#32 x)
        (k0_pay8 b (k0_pay4 v) (k0_pay5 v) 24#32 x w0) (k0_pay9 b (k0_pay4 v) (k0_pay5 v) 24#32 x w1)
        (k0_pay10 b (k0_pay4 v) (k0_pay5 v) 24#32 x w2) w3 (ix2 p f)
      = ∑ k : Fin 256, k0_pay7 (F := Ideal) b (k0_pay4 v) (k0_pay5 v) 24#32 x (ix2 p k) * w j (ix3 0 k f) := by
  pointwise [k0_pay11, k0_pay8, k0_pay9, k0_pay10]
  generalize k0_pay7 (F := Ideal) b (k0_pay4 v) (k0_pay5 v) 24#32 x = g
  have key : ∀ (q : Fin 24) (i : Fin 4), q.val = p.val → i.val = j.val →
      (∑ k : Fin 256, g (ix2 q k) * w i (ix3 0 k f)) = ∑ k : Fin 256, g (ix2 p k) * w j (ix3 0 k f) := by
    intro q i hq hi
    rw [Fin.ext hq, Fin.ext hi]
  have hp := p.isLt
  by_cases h0 : p.val < 6
  · rw [dif_pos h0, ← hw0]
    exact key p 0 rfl (by show 0 = j.val; omega)
  rw [dif_neg h0]
  by_cases h1 : p.val - 6 < 6
  · rw [dif_pos h1, ← hw1]
    exact key ⟨6 + (p.val - 6), by omega⟩ 1 (by show 6 + (p.val - 6) = p.val; omega) (by show 1 = j.val; omega)
  rw [dif_neg h1]
  by_cases h2 : p.val - 6 - 6 < 6
  · rw [dif_pos h2, ← hw2]
    exact key ⟨12 + (p.val - 6 - 6), by omega⟩ 2 (by show 12 + (p.val - 6 - 6) = p.val; omega) (by show 2 = j.val; omega)
  rw [dif_neg h2, ← hw3]
  exact key ⟨18 + (p.val - 6 - 6 - 6), by omega⟩ 3 (by show 18 + (p.val - 6 - 6 - 6) = p.val; omega) (by show 3 = j.val; omega)

/-- Row `p` of what device `d` computes: its gathered row times the weights of the row's expert. -/
theorem rowsOf_at (d : Dev nD) (x : Vec Ideal S1024x256 .bf16) (w : Vec Ideal S4x256x512 .bf16) (p : Fin 24) (f : Fin 512) (j : Fin 4)
    (hj : p.val / 6 = j.val) :
    KernelIdealRun.rowsOf (F := Ideal) d x v w (ix2 p f)
      = ∑ k : Fin 256, k0_pay7 (F := Ideal) (devWord d) (k0_pay4 v) (k0_pay5 v) 24#32 x (ix2 p k) * w (ix3 j k f) :=
  (rows_word v (devWord d) x (fun i => KernelIdealRun.wAt w i) _ _ _ _ rfl rfl rfl rfl p f j hj).trans
    (Finset.sum_congr rfl fun k _ => congrArg _ (wAt_at w j k f))

end Cert.Value

end
-- ==== Proof.Value.Layer.lean ====
/-
# What the kernel's run leaves, as the layer's mathematics

From whole arrays, every device holding the same tokens and expert ids and its own four experts' weights, each device's
result is: a kept token's product with the matrix of the expert it names, and zero for a token that is not kept.
-/
module

public import proofs.«01_k».proof.Proof.Value.Kernel
public import Idealize.ShloMosaic.Lib.Layout

@[expose] public section

noncomputable section

namespace Cert.Value

open Idealize.ShloMosaic
open Idealize.ShloMosaic.TcCoe
open Cert.KernelIdeal Cert.KernelIdeal.Gen
open Classical

/-- The layer: the sum over the experts that keep the token (at most one) of the token's product with the expert's matrix. -/
def layer (x : (⟨2, ![1024, 256]⟩ : Shape).Idx → EReal) (e : Fin 1024 → BitVec 32) (W : (⟨3, ![128, 256, 512]⟩ : Shape).Idx → EReal)
    (t : Fin 1024) (f : Fin 512) : EReal :=
  ∑ c : Fin 128, if Kept e t c then ∑ k : Fin 256, x (ix2 t k) * W (ix3 c k f) else 0

variable {x : (⟨2, ![1024, 256]⟩ : Shape).Idx → EReal} {e : Fin 1024 → BitVec 32} {W : (⟨3, ![128, 256, 512]⟩ : Shape).Idx → EReal}

theorem layer_kept {t : Fin 1024} {c : Fin 128} (h : Kept e t c) (f : Fin 512) : layer x e W t f = ∑ k : Fin 256, x (ix2 t k) * W (ix3 c k f) := by
  unfold layer
  rw [Finset.sum_eq_single c]
  · exact if_pos h
  · exact fun s _ hst => if_neg fun hs => hst (hs.unique h)
  · exact fun hn => absurd (Finset.mem_univ c) hn

theorem layer_none {t : Fin 1024} (h : ¬ ∃ c, Kept e t c) (f : Fin 512) : layer x e W t f = 0 :=
  Finset.sum_eq_zero fun c _ => if_neg fun hc => h ⟨c, hc⟩

/-- A device's block of the weights, read at an entry. -/
theorem block_at (W : (⟨3, ![128, 256, 512]⟩ : Shape).Idx → EReal) (h : Layout.Tiles ⟨3, ![4, 256, 512]⟩ ⟨3, ![128, 256, 512]⟩ 0 32)
    (d : Fin 32) (j : Fin 4) (k : Fin 256) (f : Fin 512) (c : Fin 128) (hc : c.val = 4 * d.val + j.val) :
    Layout.block ⟨3, ![4, 256, 512]⟩ ⟨3, ![128, 256, 512]⟩ 0 32 d W h (ix3 j k f) = W (ix3 c k f) := by
  rw [Layout.block_apply]
  congr 1
  funext a
  apply Fin.ext
  rw [Layout.Tiles.idx_val]
  fin_cases a
  · show d.val * 4 + j.val = c.val; omega
  · rfl
  · rfl

variable (m : (ℓ : Loc nD τ sig) → Buf (Elt Ideal) ℓ) (ρ : Dev nD → PrngReg)

/-- A row of the gather buffer is its owner's. -/
theorem gath_at (r : Fin 768) (f : Fin 512) (d : Dev nD) (p : Fin 24) (h : r.val = 24 * d.val + p.val) :
    KernelIdealRun.gathAll (F := Ideal) m ρ (ix2 r f) = KernelIdealRun.yV m ρ d (ix2 p f) := by
  have hp := p.isLt
  have hd : KernelIdealRun.ownerOf (ix2 r f) = d := Fin.ext (by show r.val / 24 = d.val; omega)
  have hw : KernelIdealRun.within (ix2 r f) = ix2 p f := by
    funext a
    apply Fin.ext
    fin_cases a
    · show r.val % 24 = p.val; omega
    · rfl
  unfold KernelIdealRun.gathAll
  rw [hd, hw]

/-- The kernel's result on every device is the layer of the whole arrays. -/
theorem out_eq (x : (⟨2, ![1024, 256]⟩ : Shape).Idx → EReal) (i : (⟨2, ![1024, 1]⟩ : Shape).Idx → BitVec 32)
    (W : (⟨3, ![128, 256, 512]⟩ : Shape).Idx → EReal)
    (hx : ∀ c : Dev nD, m ((c.tc : Thread nD τ).loc main_arg0) = x)
    (hi : ∀ c : Dev nD, m ((c.tc : Thread nD τ).loc main_arg2) = i)
    (hW : ∀ c : Dev nD, m ((c.tc : Thread nD τ).loc main_arg3) = Layout.block ⟨3, ![4, 256, 512]⟩ ⟨3, ![128, 256, 512]⟩ 0 32 c W)
    (c : Dev nD) (t : Fin 1024) (f : Fin 512) :
    KernelIdealRun.outV (F := Ideal) m ρ c (ix2 t f) = layer x (ids i) W t f := by
  unfold KernelIdealRun.outV
  rw [KernelIdealRun.iV_eq, hi, pay13_at]
  by_cases h : ∃ c, Kept (ids i) t c
  · obtain ⟨b, hb⟩ := h
    have hs := slot_kept hb
    have h6 := hb.2
    have hbl := b.isLt
    have hd : b.val / 4 < 32 := by omega
    have hp : slot (ids i) t % 24 < 24 := Nat.mod_lt _ (by decide)
    have hrow : slot (ids i) t = 24 * (b.val / 4) + slot (ids i) t % 24 := by omega
    rw [dif_pos (slot_lt hb), gath_at m ρ _ f (⟨b.val / 4, hd⟩ : Dev nD) ⟨slot (ids i) t % 24, hp⟩ hrow, layer_kept hb f]
    unfold KernelIdealRun.yV
    rw [KernelIdealRun.xV_eq, KernelIdealRun.iV_eq, KernelIdealRun.wV_eq, hx, hi, hW,
      rowsOf_at i _ x _ _ f (⟨b.val % 4, Nat.mod_lt _ (by decide)⟩ : Fin 4) (by show slot (ids i) t % 24 / 6 = b.val % 4; omega)]
    change @Eq EReal _ _
    refine Finset.sum_congr rfl fun k _ => ?_
    rw [pay7_slot i _ x _ k t hrow]
    congr 1
    exact block_at W (by decide) _ _ k f b (by show b.val = 4 * (b.val / 4) + b.val % 4; omega)
  · rw [dif_neg (by rw [slot_none h]; decide), layer_none h]

end Cert.Value

end
-- ==== Proof.Value.Reference.lean ====
/-
# What the reference computes

The reference's composed term, read at an entry, is the layer of its arguments.
-/
module

public import proofs.«01_k».proof.Proof.Gen.ReferenceIdeal.Run
public import proofs.«01_k».proof.Proof.Value.Layer
public import Idealize.ShloMosaic.Lib.Pointwise
public import Idealize.ShloMosaic.Lib.Routing.OpsOne

@[expose] public section

noncomputable section

namespace Cert.Value.Ref

open Idealize.ShloMosaic
open Idealize.ShloMosaic.TcCoe
open Cert.ReferenceIdeal Cert.ReferenceIdeal.Gen
open Classical

/-- Entry (token, expert) of the comparison of the expert ids with the experts' numbers. -/
abbrev hot (i : IVec S1024x1 32) : IVec S1024x128 1 :=
  cmpi .eq (broadcastInDim S1024x128 ![0, 1] bcast_S1024x1_S1024x128_0_1 (broadcastInDim S1024x1 ![0] bcast_S1024_S1024x1_0 (shapeCast _ i shapeCasts_S1024x1_S1024)))
    (broadcastInDim S1024x128 ![0, 1] bcast_S1x128_S1024x128_0_1 (broadcastInDim S1x128 ![1] bcast_S128_S1x128_1 (iotaInDim S128 32 0)))

/-- The running count of the comparison down the tokens. -/
abbrev upTo (i : IVec S1024x1 32) : IVec S1024x128 32 :=
  Host.reduceWindow IntOp.addi ![1024, 1] ![1, 1] ![1023, 0] ![0, 0] (extui 32 (hot i) natLt_1_32) (broadcastInDim S_ ![] bcast_S_S_ (constantI S_ 32 0#32)) reduceWindows_S1024x128_S1024x128_w1024s1p1023_0_w1s1p0_0 h_S_

/-- Whether the expert keeps the token. -/
abbrev keep (i : IVec S1024x1 32) : IVec S1024x128 1 :=
  andi (hot i) (cmpi .slt (subi (upTo i) (extui 32 (hot i) natLt_1_32)) (broadcastInDim S1024x128 ![] bcast_S_S1024x128 (constantI S_ 32 6#32)))

/-- The reference's result as its operations compose it. -/
abbrev refOut (x : FVec Ideal S1024x256 .bf16) (i : IVec S1024x1 32) (W : FVec Ideal S128x256x512 .bf16) : FVec Ideal S1024x512 .f32 :=
  Host.reduceAdd (select (broadcastInDim S1024x128x512 ![0, 1, 2] bcast_S1024x128x1_S1024x128x512_0_1_2 (broadcastInDim S1024x128x1 ![0, 1] bcast_S1024x128_S1024x128x1_0_1 (keep i)))
    (Host.dotGeneral dot_S1024x256_S128x256x512_S1024x128x512_1_1_0_02_n_n none (extf .f32 x bitsLt_bf16_f32) (extf .f32 W bitsLt_bf16_f32))
    (broadcastInDim S1024x128x512 ![] bcast_S_S1024x128x512 (id (constant S_ .f32 0x00000000#32)))) (constant S_ .f32 0x00000000#32) reducesTo_S1024x128x512_S1024x512_d1 h_S_

theorem hot_at (i : IVec S1024x1 32) (t : Fin 1024) (c : Fin 128) : hot i (ix2 t c) = BitVec.ofBool (decide (ids i t = BitVec.ofNat 32 c.val)) := by
  pointwise [hot]
  rfl

/-- Adding up the naming tokens before a token counts them. -/
theorem sum_earlier (e : Fin 1024 → BitVec 32) (t : Fin 1024) (c : Fin 128) :
    ((List.range t.val).map fun s => if h : s < 1024 then (if e ⟨s, h⟩ = BitVec.ofNat 32 c.val then 1 else 0) else 0).sum = earlier e t c := by
  have h1 : earlier e t c = ∑ k : Fin 1024, (fun s : ℕ => if s < t.val then (if h : s < 1024 then (if e ⟨s, h⟩ = BitVec.ofNat 32 c.val then 1 else 0) else 0) else 0) k.val := by
    unfold earlier
    rw [Finset.card_filter]
    refine Finset.sum_congr rfl fun k _ => ?_
    by_cases hk : k < t
    · simp [hk]
    · simp [hk]
  rw [h1, Fin.sum_univ_eq_sum_range (fun s : ℕ => if s < t.val then (if h : s < 1024 then (if e ⟨s, h⟩ = BitVec.ofNat 32 c.val then 1 else 0) else 0) else 0) 1024, ← Finset.sum_filter]
  have h2 : (Finset.range 1024).filter (fun s => s < t.val) = Finset.range t.val := by
    ext s
    have := t.isLt
    simp only [Finset.mem_filter, Finset.mem_range]
    omega
  rw [h2]
  rfl

/-- The running count at a token: the earlier tokens that name the expert, and the token itself. -/
theorem upTo_at (i : IVec S1024x1 32) (t : Fin 1024) (c : Fin 128) :
    upTo i (ix2 t c) = BitVec.ofNat 32 (earlier (ids i) t c + if ids i t = BitVec.ofNat 32 c.val then 1 else 0) := by
  refine (Routing.cumsum_rows (R := 1024) (Rm1 := 1023) (C := 128) rfl _
    (fun s c => if h : s < 1024 then (if ids i ⟨s, h⟩ = BitVec.ofNat 32 c then 1 else 0) else 0) ?_ _ ?_ _ _ t c).trans ?_
  · intro s b
    rw [dif_pos s.isLt]
    show BitVec.setWidth 32 (hot i (ix2 s b)) = _
    rw [hot_at]
    by_cases h : ids i s = BitVec.ofNat 32 b.val
    · rw [if_pos h, decide_eq_true h]; rfl
    · rw [if_neg h, decide_eq_false h]; rfl
  · rfl
  · congr 1
    rw [List.range_succ, List.map_append, List.sum_append]
    congr 1
    · exact sum_earlier (ids i) t c
    · simp

theorem keep_at (i : IVec S1024x1 32) (t : Fin 1024) (c : Fin 128) : keep i (ix2 t c) = BitVec.ofBool (decide (Kept (ids i) t c)) := by
  have h : keep i (ix2 t c) = IntOp.andi (hot i (ix2 t c)) (IntOp.cmpi .slt (upTo i (ix2 t c) - BitVec.setWidth 32 (hot i (ix2 t c))) (BitVec.ofNat 32 6)) := rfl
  have he := earlier_le (ids i) t c
  have hsub : upTo i (ix2 t c) - BitVec.setWidth 32 (hot i (ix2 t c)) = BitVec.ofNat 32 (earlier (ids i) t c) := by
    rw [upTo_at, hot_at]
    by_cases hh : ids i t = BitVec.ofNat 32 c.val
    · rw [if_pos hh, decide_eq_true hh, BitVec.ofNat_add]
      exact BitVec.add_sub_cancel _ _
    · rw [if_neg hh, decide_eq_false hh, Nat.add_zero]
      exact BitVec.sub_zero _
  rw [h, hsub, hot_at, cmpi_slt _ _ (by omega) (by omega), andi_bool]
  congr 1
  exact decide_eq_decide.2 Iff.rfl

/-- The reference's result at an entry is the layer of its arguments. -/
theorem refOut_at (x : FVec Ideal S1024x256 .bf16) (i : IVec S1024x1 32) (W : FVec Ideal S128x256x512 .bf16) (t : Fin 1024) (f : Fin 512) :
    refOut x i W (ix2 t f) = layer x (ids i) W t f := by
  unfold refOut layer
  generalize hk : keep i = kp
  pointwise
  refine Finset.sum_congr rfl fun c _ => ?_
  rw [← hk, keep_at, Scalar.select_ofBool]
  by_cases h : Kept (ids i) t c
  · rw [if_pos h, if_pos (decide_eq_true h)]
  · rw [if_neg h, if_neg (by rw [decide_eq_false h]; decide)]
    exact Ideal.ofBits_zero_f32

end Cert.Value.Ref

end
-- ==== Proof.lean ====
/-
# The certificate

Assembles the claims: the frames of the printed kernel, of its ideal reading and of the reference, and that the last two
compute the same function over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun.Run
public import proofs.«01_k».proof.Proof.KernelIdealRun.Run
public import proofs.«01_k».proof.Proof.Value.Reference
public import Idealize.ShloMosaic.Adequacy
public import Idealize.ShloMosaic.Init

@[expose] public section

noncomputable section

namespace Cert.Proof

open Idealize.ShloMosaic Idealize.SL.Sem Cert.Kernel

/-- The printed kernel runs on the whole mesh, leaves its arguments as they were and every counter at zero. -/
theorem frame_p : Cert.quiescent_Kernel := fun m g _ =>
  (θ_run Cert.Kernel.defs _ _).mono (fun _ h => ⟨fun c => (h.1 c).2, h.2⟩) (Cert.KernelRun.run_main (F := Bits) m g)

/-- So does its ideal reading. -/
theorem frame_pi : Cert.quiescent_KernelIdeal := fun m g _ =>
  (θ_run Cert.KernelIdeal.defs _ _).mono (fun _ h => ⟨fun c => (h.1 c).2, h.2⟩) (Cert.KernelIdealRun.run_main (F := Ideal) m g)

/-- The reference runs and leaves its arguments as they were; it has no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals every device's result is the reference's: both are the layer of the whole arrays. -/
theorem algebraic_pi_ri : Cert.algebraic_KernelIdeal_ReferenceIdeal := by
  intro m g m' g' _ hargs
  refine ⟨_, ?_, (θ_run Cert.ReferenceIdeal.defs _ _).mono (fun _ h => h 0) (Cert.ReferenceIdeal.Value.run (F := Ideal) m' g')⟩
  refine (θ_run Cert.KernelIdeal.defs _ _).mono (fun r h c => ?_) (Cert.KernelIdealRun.run_main (F := Ideal) m g)
  refine ⟨((h.1 c).1).trans ?_, (h.1 c).2⟩
  funext j
  have e := Cert.Value.out_eq m g _ _ _ (fun c => (hargs c).1) (fun c => (hargs c).2.2.1) (fun c => (hargs c).2.2.2) c (j 0) (j 1)
  have e' := Cert.Value.Ref.refOut_at (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)) (j 0) (j 1)
  rw [eq_ix2 j]
  exact e.trans e'.symm

/-- Everything the certificate claims. -/
theorem claim : Cert.Claim := ⟨Cert.Kernel.Gen.facts, Cert.KernelIdeal.Gen.facts, Cert.ReferenceIdeal.Gen.facts,
  frame_p, frame_pi, frame_ri, trivial, algebraic_pi_ri⟩

end Cert.Proof

end
